-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320x1x6x256 : Shape := ⟨4, ![320, 1, 6, 256]⟩
abbrev S320x1x6x512 : Shape := ⟨4, ![320, 1, 6, 512]⟩
abbrev S320x1x6 : Shape := ⟨3, ![320, 1, 6]⟩
abbrev S320x6x512x256 : Shape := ⟨4, ![320, 6, 512, 256]⟩
abbrev S320x6x512 : Shape := ⟨3, ![320, 6, 512]⟩
abbrev S4x1x6x256 : Shape := ⟨4, ![4, 1, 6, 256]⟩
abbrev S4x1x6x512 : Shape := ⟨4, ![4, 1, 6, 512]⟩
abbrev S4x1x6 : Shape := ⟨3, ![4, 1, 6]⟩
abbrev S4x6x512x256 : Shape := ⟨4, ![4, 6, 512, 256]⟩
abbrev S4x6x512 : Shape := ⟨3, ![4, 6, 512]⟩
abbrev S256x256 : Shape := ⟨2, ![256, 256]⟩
abbrev S1x1x6x256 : Shape := ⟨4, ![1, 1, 6, 256]⟩
abbrev S6x256 : Shape := ⟨2, ![6, 256]⟩
abbrev S6 : Shape := ⟨1, ![6]⟩
abbrev S6x1 : Shape := ⟨2, ![6, 1]⟩
abbrev S1x1x6 : Shape := ⟨3, ![1, 1, 6]⟩
abbrev S1x256 : Shape := ⟨2, ![1, 256]⟩
abbrev S14x256 : Shape := ⟨2, ![14, 256]⟩
abbrev S16x256 : Shape := ⟨2, ![16, 256]⟩
abbrev S1x1x512x256 : Shape := ⟨4, ![1, 1, 512, 256]⟩
abbrev S512x256 : Shape := ⟨2, ![512, 256]⟩
abbrev S16x512 : Shape := ⟨2, ![16, 512]⟩
abbrev S1x512 : Shape := ⟨2, ![1, 512]⟩
abbrev S1x6x512 : Shape := ⟨3, ![1, 6, 512]⟩
abbrev S6x512 : Shape := ⟨2, ![6, 512]⟩
abbrev S1x1x6x512 : Shape := ⟨4, ![1, 1, 6, 512]⟩
abbrev S256x512 : Shape := ⟨2, ![256, 512]⟩
abbrev S128x256 : Shape := ⟨2, ![128, 256]⟩
abbrev S256x128 : Shape := ⟨2, ![256, 128]⟩
abbrev S512 : Shape := ⟨1, ![512]⟩
abbrev S1x1x512 : Shape := ⟨3, ![1, 1, 512]⟩

abbrev nBuf : Space → Nat
  | .hbm => 10
  | .vmem => 20
  | .smem => 0
  | _ => 0

abbrev bufTy : (tb : Table) → Fin (tcTables nBuf tb) → BufTy
  | .hbm, ⟨0, _⟩ => ⟨S320x1x6x256, .bf16⟩
  | .hbm, ⟨1, _⟩ => ⟨S320x1x6x256, .bf16⟩
  | .hbm, ⟨2, _⟩ => ⟨S320x1x6x512, .bf16⟩
  | .hbm, ⟨3, _⟩ => ⟨S320x1x6, .f32⟩
  | .hbm, ⟨4, _⟩ => ⟨S320x1x6, .f32⟩
  | .hbm, ⟨5, _⟩ => ⟨S320x6x512x256, .fp8e4m3⟩
  | .hbm, ⟨6, _⟩ => ⟨S320x6x512, .f32⟩
  | .hbm, ⟨7, _⟩ => ⟨S320x1x6x512, .bf16⟩
  | .hbm, ⟨8, _⟩ => ⟨S320x6x512x256, .fp8e4m3⟩
  | .hbm, ⟨9, _⟩ => ⟨S320x6x512, .f32⟩
  | .local _ .vmem, ⟨0, _⟩ => ⟨S4x1x6x256, .bf16⟩
  | .local _ .vmem, ⟨1, _⟩ => ⟨S4x1x6x256, .bf16⟩
  | .local _ .vmem, ⟨2, _⟩ => ⟨S4x1x6x256, .bf16⟩
  | .local _ .vmem, ⟨3, _⟩ => ⟨S4x1x6x256, .bf16⟩
  | .local _ .vmem, ⟨4, _⟩ => ⟨S4x1x6x512, .bf16⟩
  | .local _ .vmem, ⟨5, _⟩ => ⟨S4x1x6x512, .bf16⟩
  | .local _ .vmem, ⟨6, _⟩ => ⟨S4x1x6, .f32⟩
  | .local _ .vmem, ⟨7, _⟩ => ⟨S4x1x6, .f32⟩
  | .local _ .vmem, ⟨8, _⟩ => ⟨S4x1x6, .f32⟩
  | .local _ .vmem, ⟨9, _⟩ => ⟨S4x1x6, .f32⟩
  | .local _ .vmem, ⟨10, _⟩ => ⟨S4x6x512x256, .fp8e4m3⟩
  | .local _ .vmem, ⟨11, _⟩ => ⟨S4x6x512x256, .fp8e4m3⟩
  | .local _ .vmem, ⟨12, _⟩ => ⟨S4x6x512, .f32⟩
  | .local _ .vmem, ⟨13, _⟩ => ⟨S4x6x512, .f32⟩
  | .local _ .vmem, ⟨14, _⟩ => ⟨S4x1x6x512, .bf16⟩
  | .local _ .vmem, ⟨15, _⟩ => ⟨S4x1x6x512, .bf16⟩
  | .local _ .vmem, ⟨16, _⟩ => ⟨S4x6x512x256, .fp8e4m3⟩
  | .local _ .vmem, ⟨17, _⟩ => ⟨S4x6x512x256, .fp8e4m3⟩
  | .local _ .vmem, ⟨18, _⟩ => ⟨S4x6x512, .f32⟩
  | .local _ .vmem, ⟨19, _⟩ => ⟨S4x6x512, .f32⟩
  | _, _ => ⟨S320x1x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off1 (k0_t1 : Fin k0_t1_loop.trips) : Fin 4 → Nat :=
  let c0_i32 : BitVec 32 := 0#32
  let c1_i32 : BitVec 32 := 1#32
  let arg11 : BitVec 32 := Scf.iv c0_i32 c1_i32 k0_t1
  let v7 : Index := Scalar.indexCast arg11
  let c0 : Index := 0#32
  let c0_1 : Index := 0#32
  let c0_2 : Index := 0#32
  ![v7.toNat, 0, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v40 : Index := Scalar.indexCast arg11
  let c0_11 : Index := 0#32
  let c0_12 : Index := 0#32
  ![v40.toNat, 0, 0]
def k0_off3 (k0_t1 : Fin k0_t1_loop.trips) : Fin 4 → Nat :=
  let c0_i32 : BitVec 32 := 0#32
  let c1_i32 : BitVec 32 := 1#32
  let arg11 : BitVec 32 := Scf.iv c0_i32 c1_i32 k0_t1
  let v54 : Index := Scalar.indexCast arg11
  let c0_16 : Index := 0#32
  let c0_17 : Index := 0#32
  let c0_18 : Index := 0#32
  ![v54.toNat, 0, 0, 0]
def k0_off4 (k0_t1 : Fin k0_t1_loop.trips) : Fin 4 → Nat :=
  let c0_i32 : BitVec 32 := 0#32
  let c1_i32 : BitVec 32 := 1#32
  let arg11 : BitVec 32 := Scf.iv c0_i32 c1_i32 k0_t1
  let v65 : Index := Scalar.indexCast arg11
  let c1 : Index := 1#32
  let c0_21 : Index := 0#32
  let c0_22 : Index := 0#32
  ![v65.toNat, 1, 0, 0]
def k0_off5 (k0_t1 : Fin k0_t1_loop.trips) : Fin 4 → Nat :=
  let c0_i32 : BitVec 32 := 0#32
  let c1_i32 : BitVec 32 := 1#32
  let arg11 : BitVec 32 := Scf.iv c0_i32 c1_i32 k0_t1
  let v76 : Index := Scalar.indexCast arg11
  let c2 : Index := 2#32
  let c0_25 : Index := 0#32
  let c0_26 : Index := 0#32
  ![v76.toNat, 2, 0, 0]
def k0_off6 (k0_t1 : Fin k0_t1_loop.trips) : Fin 4 → Nat :=
  let c0_i32 : BitVec 32 := 0#32
  let c1_i32 : BitVec 32 := 1#32
  let arg11 : BitVec 32 := Scf.iv c0_i32 c1_i32 k0_t1
  let v87 : Index := Scalar.indexCast arg11
  let c3 : Index := 3#32
  let c0_29 : Index := 0#32
  let c0_30 : Index := 0#32
  ![v87.toNat, 3, 0, 0]
def k0_off7 (k0_t1 : Fin k0_t1_loop.trips) : Fin 4 → Nat :=
  let c0_i32 : BitVec 32 := 0#32
  let c1_i32 : BitVec 32 := 1#32
  let arg11 : BitVec 32 := Scf.iv c0_i32 c1_i32 k0_t1
  let v98 : Index := Scalar.indexCast arg11
  let c4 : Index := 4#32
  let c0_33 : Index := 0#32
  let c0_34 : Index := 0#32
  ![v98.toNat, 4, 0, 0]
def k0_off8 (k0_t1 : Fin k0_t1_loop.trips) : Fin 4 → Nat :=
  let c0_i32 : BitVec 32 := 0#32
  let c1_i32 : BitVec 32 := 1#32
  let arg11 : BitVec 32 := Scf.iv c0_i32 c1_i32 k0_t1
  let v109 : Index := Scalar.indexCast arg11
  let c5 : Index := 5#32
  let c0_37 : Index := 0#32
  let c0_38 : Index := 0#32
  ![v109.toNat, 5, 0, 0]
def k0_off9 (k0_t1 : Fin k0_t1_loop.trips) : Fin 3 → Nat :=
  let c0_i32 : BitVec 32 := 0#32
  let c1_i32 : BitVec 32 := 1#32
  let arg11 : BitVec 32 := Scf.iv c0_i32 c1_i32 k0_t1
  let v115 : Index := Scalar.indexCast arg11
  let c0_40 : Index := 0#32
  let c0_41 : Index := 0#32
  ![v115.toNat, 0, 0]
def k0_off10 (k0_t1 : Fin k0_t1_loop.trips) : Fin 4 → Nat :=
  let c0_i32 : BitVec 32 := 0#32
  let c1_i32 : BitVec 32 := 1#32
  let arg11 : BitVec 32 := Scf.iv c0_i32 c1_i32 k0_t1
  let v122 : Index := Scalar.indexCast arg11
  let c0_42 : Index := 0#32
  let c0_43 : Index := 0#32
  let c0_44 : Index := 0#32
  ![v122.toNat, 0, 0, 0]
def k0_off11 (k0_t1 : Fin k0_t1_loop.trips) : Fin 3 → Nat :=
  let c0_i32 : BitVec 32 := 0#32
  let c1_i32 : BitVec 32 := 1#32
  let arg11 : BitVec 32 := Scf.iv c0_i32 c1_i32 k0_t1
  let v254 : Index := Scalar.indexCast arg11
  let c0_77 : Index := 0#32
  let c0_78 : Index := 0#32
  ![v254.toNat, 0, 0]
def k0_off12 (k0_t1 : Fin k0_t1_loop.trips) : Fin 3 → Nat :=
  let c0_i32 : BitVec 32 := 0#32
  let c1_i32 : BitVec 32 := 1#32
  let arg11 : BitVec 32 := Scf.iv c0_i32 c1_i32 k0_t1
  let v386 : Index := Scalar.indexCast arg11
  let c1_123 : Index := 1#32
  let c0_124 : Index := 0#32
  ![v386.toNat, 1, 0]
def k0_off13 (k0_t1 : Fin k0_t1_loop.trips) : Fin 3 → Nat :=
  let c0_i32 : BitVec 32 := 0#32
  let c1_i32 : BitVec 32 := 1#32
  let arg11 : BitVec 32 := Scf.iv c0_i32 c1_i32 k0_t1
  let v518 : Index := Scalar.indexCast arg11
  let c2_170 : Index := 2#32
  let c0_171 : Index := 0#32
  ![v518.toNat, 2, 0]
def k0_off14 (k0_t1 : Fin k0_t1_loop.trips) : Fin 3 → Nat :=
  let c0_i32 : BitVec 32 := 0#32
  let c1_i32 : BitVec 32 := 1#32
  let arg11 : BitVec 32 := Scf.iv c0_i32 c1_i32 k0_t1
  let v650 : Index := Scalar.indexCast arg11
  let c3_217 : Index := 3#32
  let c0_218 : Index := 0#32
  ![v650.toNat, 3, 0]
def k0_off15 (k0_t1 : Fin k0_t1_loop.trips) : Fin 3 → Nat :=
  let c0_i32 : BitVec 32 := 0#32
  let c1_i32 : BitVec 32 := 1#32
  let arg11 : BitVec 32 := Scf.iv c0_i32 c1_i32 k0_t1
  let v782 : Index := Scalar.indexCast arg11
  let c4_264 : Index := 4#32
  let c0_265 : Index := 0#32
  ![v782.toNat, 4, 0]
def k0_off16 (k0_t1 : Fin k0_t1_loop.trips) : Fin 3 → Nat :=
  let c0_i32 : BitVec 32 := 0#32
  let c1_i32 : BitVec 32 := 1#32
  let arg11 : BitVec 32 := Scf.iv c0_i32 c1_i32 k0_t1
  let v914 : Index := Scalar.indexCast arg11
  let c5_311 : Index := 5#32
  let c0_312 : Index := 0#32
  ![v914.toNat, 5, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x6x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x6x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x6x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x6x512x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x6x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x6x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x6x512x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x6x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S320x1x6x256 : Shape := ⟨4, ![320, 1, 6, 256]⟩
abbrev S320x1x6x512 : Shape := ⟨4, ![320, 1, 6, 512]⟩
abbrev S320x1x6 : Shape := ⟨3, ![320, 1, 6]⟩
abbrev S320x6x512x256 : Shape := ⟨4, ![320, 6, 512, 256]⟩
abbrev S320x6x512 : Shape := ⟨3, ![320, 6, 512]⟩
abbrev S320x6x256 : Shape := ⟨3, ![320, 6, 256]⟩
abbrev S320x6 : Shape := ⟨2, ![320, 6]⟩
abbrev S320x6x1 : Shape := ⟨3, ![320, 6, 1]⟩
abbrev S320x6x1x256 : Shape := ⟨4, ![320, 6, 1, 256]⟩
abbrev S320x6x2x256 : Shape := ⟨4, ![320, 6, 2, 256]⟩
abbrev S320x6x2x512 : Shape := ⟨4, ![320, 6, 2, 512]⟩
abbrev S320x6x1x512 : Shape := ⟨4, ![320, 6, 1, 512]⟩
abbrev S320x6x512x1 : Shape := ⟨4, ![320, 6, 512, 1]⟩
abbrev S320x6x1x1 : Shape := ⟨4, ![320, 6, 1, 1]⟩

abbrev nBuf : Space → Nat
  | .hbm => 10
  | .vmem => 10
  | .smem => 0
  | _ => 0

abbrev bufTy : (tb : Table) → Fin (tcTables nBuf tb) → BufTy
  | .hbm, ⟨0, _⟩ => ⟨S320x1x6x256, .bf16⟩
  | .hbm, ⟨1, _⟩ => ⟨S320x1x6x256, .bf16⟩
  | .hbm, ⟨2, _⟩ => ⟨S320x1x6x512, .bf16⟩
  | .hbm, ⟨3, _⟩ => ⟨S320x1x6, .f32⟩
  | .hbm, ⟨4, _⟩ => ⟨S320x1x6, .f32⟩
  | .hbm, ⟨5, _⟩ => ⟨S320x6x512x256, .fp8e4m3⟩
  | .hbm, ⟨6, _⟩ => ⟨S320x6x512, .f32⟩
  | .hbm, ⟨7, _⟩ => ⟨S320x1x6x512, .bf16⟩
  | .hbm, ⟨8, _⟩ => ⟨S320x6x512x256, .fp8e4m3⟩
  | .hbm, ⟨9, _⟩ => ⟨S320x6x512, .f32⟩
  | .local _ .vmem, ⟨0, _⟩ => ⟨S320x1x6x256, .bf16⟩
  | .local _ .vmem, ⟨1, _⟩ => ⟨S320x1x6x256, .bf16⟩
  | .local _ .vmem, ⟨2, _⟩ => ⟨S320x1x6x512, .bf16⟩
  | .local _ .vmem, ⟨3, _⟩ => ⟨S320x1x6, .f32⟩
  | .local _ .vmem, ⟨4, _⟩ => ⟨S320x1x6, .f32⟩
  | .local _ .vmem, ⟨5, _⟩ => ⟨S320x6x512x256, .fp8e4m3⟩
  | .local _ .vmem, ⟨6, _⟩ => ⟨S320x6x512, .f32⟩
  | .local _ .vmem, ⟨7, _⟩ => ⟨S320x1x6x512, .bf16⟩
  | .local _ .vmem, ⟨8, _⟩ => ⟨S320x6x512x256, .fp8e4m3⟩
  | .local _ .vmem, ⟨9, _⟩ => ⟨S320x6x512, .f32⟩
  | _, _ => ⟨S320x1x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S320x1x6x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x1x6x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x1x6x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x1x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x6x512x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S320x6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S320x1x6x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S320x6x512x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S320x6x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Exponent.lean ====
/- The scale's exponent, on extended reals: the kernel finds the exponent field of `p = amax / 448` by comparing `p` with
   powers of two, highest bit of the field first, and builds the scale and its inverse from that field; the reference takes
   `⌊log p / log 2⌋ + 1` and raises two to it. The two agree at EVERY extended real `p`. -/
module

public import Idealize.ShloMosaic.Lib.Pointwise
public import Idealize.ShloMosaic.PureOps.Ideal
public import Idealize.ShloMosaic.PureOps.Ideal.Laws
public import Mathlib.Analysis.SpecialFunctions.Log.Basic
public import Mathlib.Analysis.SpecialFunctions.Pow.Real

@[expose] public section

noncomputable section

namespace Cert.Delta

open Idealize.ShloMosaic

/-! ## The kernel's side -/

/-- One step of the kernel's search: the bit `bit` joins the field `be` when the power of two whose exponent field is
    `be + bit` is at most `p`. -/
def fieldStep (p : EReal) (bit be : BitVec 32) : BitVec 32 :=
  if Ideal.ofBits .f32 (IntOp.shli .vector (IntOp.addi be bit) 23#32) ≤ p then IntOp.addi be bit else be

/-- The field after the eight steps, from zero. -/
def field (p : EReal) : BitVec 32 :=
  fieldStep p 1#32 (fieldStep p 2#32 (fieldStep p 4#32 (fieldStep p 8#32 (fieldStep p 16#32 (fieldStep p 32#32
    (fieldStep p 64#32 (fieldStep p 128#32 0#32)))))))

/-- The field with everything from `2^126` up sent to 255. -/
def fieldCap (p : EReal) : BitVec 32 :=
  if Ideal.ofBits .f32 0x7E800000#32 ≤ p then 255#32 else field p

/-- The field the scale is built from: 0 and 255 both replaced by 126, whose scale is one. -/
def fieldFix (p : EReal) : BitVec 32 :=
  Scalar.select (IntOp.ori (IntOp.cmpi .eq (fieldCap p) 0#32) (IntOp.cmpi .eq (fieldCap p) 255#32)) 126#32 (fieldCap p)

/-- The kernel's scale: the float whose exponent field is one more. -/
def scaleBits (p : EReal) : EReal := Ideal.ofBits .f32 (IntOp.shli .vector (IntOp.addi (fieldFix p) 1#32) 23#32)

/-- The kernel's inverse scale: the float whose exponent field is 253 less the field. -/
def invBits (p : EReal) : EReal := Ideal.ofBits .f32 (IntOp.shli .vector (IntOp.subi 253#32 (fieldFix p)) 23#32)

/-! ## The reference's side -/

/-- The reference's exponent: `⌊log p / log 2⌋ + 1` on `[2^-126, 2^126)`, zero elsewhere. -/
def expo (p : EReal) : EReal :=
  if p < Ideal.ofBits .f32 0x00800000#32 ∨ Ideal.ofBits .f32 0x7E800000#32 ≤ p then 0
  else Ideal.liftRound Int.floor (Ideal.div (Ideal.log p) (Ideal.log (Ideal.ofBits .f32 0x40000000#32))) + 1

/-! ## Powers of two -/

/-- A field `j` shifted into place is the bit pattern `j · 2^23`. -/
theorem shl_field : ∀ j : Fin 256, IntOp.shli .vector (BitVec.ofNat 32 j.val) 23#32 = BitVec.ofNat 32 (j.val * 8388608) := by
  decide +kernel

/-- The parts of the pattern `j · 2^23`: sign 0, exponent field `j`, fraction 0. -/
theorem parts_field : ∀ j : Fin 256, ((BitVec.ofNat 32 (j.val * 8388608)).extractLsb' 31 1 == 1#1) = false
    ∧ ((BitVec.ofNat 32 (j.val * 8388608)).extractLsb' 23 8).toNat = j.val
    ∧ ((BitVec.ofNat 32 (j.val * 8388608)).extractLsb' 0 23).toNat = 0 := by
  decide +kernel

/-- The float with exponent field `j` and nothing else, `1 ≤ j ≤ 254`, is `2^(j - 127)`. -/
theorem ofBits_field (j : Nat) (h1 : 1 ≤ j) (h2 : j ≤ 254) :
    Ideal.ofBits .f32 (BitVec.ofNat 32 (j * 8388608)) = (((2 : ℝ) ^ ((j : ℤ) - 127) : ℝ) : EReal) := by
  obtain ⟨hs, he, hf⟩ := parts_field ⟨j, by omega⟩
  simp only at hs he hf
  show Ideal.ieee 8 23 _ = _
  unfold Ideal.ieee
  simp only [hs, he, hf, Nat.reduceAdd]
  rw [if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num)]
  congr 1
  norm_num

/-- Exponent field 255 is plus infinity. -/
theorem ofBits_field_top : Ideal.ofBits .f32 (BitVec.ofNat 32 (255 * 8388608)) = ⊤ := by
  simp [Ideal.ofBits, Ideal.ieee]

/-- The integer `⌊log r / log 2⌋`. -/
def lg (r : ℝ) : ℤ := ⌊Real.log r / Real.log 2⌋

/-- A power of two is at most a positive real exactly when its exponent is at most `lg r`. -/
theorem zpow_le_iff (r : ℝ) (hr : 0 < r) (x : ℤ) : (2 : ℝ) ^ x ≤ r ↔ x ≤ lg r := by
  unfold lg
  rw [Int.le_floor, le_div_iff₀ (Real.log_pos (by norm_num)), ← Real.log_zpow, Real.log_le_log_iff (by positivity) hr]

/-- Comparing a positive real `r` with the powers of two reads off `N = ⌊log₂ r⌋ + 127`. -/
theorem field_le_iff (r : ℝ) (hr : 0 < r) (N : Nat) (hN : (N : ℤ) = lg r + 127) (hN2 : N ≤ 254) (j : Nat) (h1 : 1 ≤ j)
    (h2 : j ≤ 255) : Ideal.ofBits .f32 (BitVec.ofNat 32 (j * 8388608)) ≤ (r : EReal) ↔ j ≤ N := by
  by_cases h : j = 255
  · subst h
    rw [ofBits_field_top]
    constructor
    · intro h; exact absurd (le_antisymm le_top h) (EReal.coe_ne_top r)
    · intro h; omega
  · rw [ofBits_field j h1 (by omega), EReal.coe_le_coe_iff]
    rw [zpow_le_iff r hr]
    omega

/-! ## The search -/

/-- The search on natural numbers, comparing with `N`. -/
def natStep (N bit be : Nat) : Nat := if be + bit ≤ N then be + bit else be

/-- Eight steps of the search on natural numbers find `N`. -/
theorem natSearch : ∀ N : Fin 256, natStep N 1 (natStep N 2 (natStep N 4 (natStep N 8 (natStep N 16 (natStep N 32
    (natStep N 64 (natStep N 128 0))))))) = N.val := by
  decide +kernel

/-- A step of the kernel's search is the step on natural numbers, when the comparisons of `p` are those of `N`. -/
theorem fieldStep_eq (p : EReal) (N : Nat)
    (hp : ∀ j : Nat, 1 ≤ j → j ≤ 255 → (Ideal.ofBits .f32 (BitVec.ofNat 32 (j * 8388608)) ≤ p ↔ j ≤ N))
    (bit be : Nat) (h1 : 1 ≤ bit) (h2 : be + bit ≤ 255) :
    fieldStep p (BitVec.ofNat 32 bit) (BitVec.ofNat 32 be) = BitVec.ofNat 32 (natStep N bit be) := by
  unfold fieldStep natStep
  have e : IntOp.addi (BitVec.ofNat 32 be) (BitVec.ofNat 32 bit) = BitVec.ofNat 32 (be + bit) := by
    show BitVec.ofNat 32 be + BitVec.ofNat 32 bit = _
    rw [BitVec.ofNat_add]
  rw [e, shl_field ⟨be + bit, by omega⟩]
  simp only [hp (be + bit) (by omega) h2]
  split <;> rfl

/-- A step keeps the field inside the bits searched so far. -/
theorem natStep_le (N bit be m : Nat) (h : be ≤ m) : natStep N bit be ≤ m + bit := by
  unfold natStep; split <;> omega

/-- So the kernel's search finds `N`. -/
theorem field_eq (p : EReal) (N : Nat) (hN : N ≤ 254)
    (hp : ∀ j : Nat, 1 ≤ j → j ≤ 255 → (Ideal.ofBits .f32 (BitVec.ofNat 32 (j * 8388608)) ≤ p ↔ j ≤ N)) :
    field p = BitVec.ofNat 32 N := by
  have a1 : natStep N 128 0 ≤ 128 := natStep_le N 128 0 0 (le_refl _)
  have a2 := natStep_le N 64 _ _ a1
  have a3 := natStep_le N 32 _ _ a2
  have a4 := natStep_le N 16 _ _ a3
  have a5 := natStep_le N 8 _ _ a4
  have a6 := natStep_le N 4 _ _ a5
  have a7 := natStep_le N 2 _ _ a6
  unfold field
  rw [fieldStep_eq p N hp 128 0 (by omega) (by omega), fieldStep_eq p N hp 64 _ (by omega) (by omega),
    fieldStep_eq p N hp 32 _ (by omega) (by omega), fieldStep_eq p N hp 16 _ (by omega) (by omega),
    fieldStep_eq p N hp 8 _ (by omega) (by omega), fieldStep_eq p N hp 4 _ (by omega) (by omega),
    fieldStep_eq p N hp 2 _ (by omega) (by omega), fieldStep_eq p N hp 1 _ (by omega) (by omega)]
  rw [natSearch ⟨N, by omega⟩]

/-! ## The two sides agree -/

/-- The lower end of the range is `2^-126`. -/
theorem ofBits_lo : Ideal.ofBits .f32 0x00800000#32 = (((2 : ℝ) ^ (-126 : ℤ) : ℝ) : EReal) := by
  rw [show (0x00800000#32 : BitVec 32) = BitVec.ofNat 32 (1 * 8388608) by rfl, ofBits_field 1 (by omega) (by omega)]
  norm_num

/-- The upper end of the range is `2^126`. -/
theorem ofBits_hi : Ideal.ofBits .f32 0x7E800000#32 = (((2 : ℝ) ^ (126 : ℤ) : ℝ) : EReal) := by
  rw [show (0x7E800000#32 : BitVec 32) = BitVec.ofNat 32 (253 * 8388608) by rfl, ofBits_field 253 (by omega) (by omega)]
  norm_num

/-- The constant two. -/
theorem ofBits_two : Ideal.ofBits .f32 0x40000000#32 = ((2 : ℝ) : EReal) := by
  rw [show (0x40000000#32 : BitVec 32) = BitVec.ofNat 32 (128 * 8388608) by rfl, ofBits_field 128 (by omega) (by omega)]
  norm_num

/-- The fixed field is 126 when the capped field is 0 or 255, and the field itself in between. -/
theorem fix_table : ∀ j : Fin 256, Scalar.select (IntOp.ori (IntOp.cmpi .eq (BitVec.ofNat 32 j.val) 0#32)
    (IntOp.cmpi .eq (BitVec.ofNat 32 j.val) 255#32)) 126#32 (BitVec.ofNat 32 j.val)
      = BitVec.ofNat 32 (if j.val = 0 ∨ j.val = 255 then 126 else j.val) := by
  decide +kernel

/-- The two fields the scale and its inverse are built from, as natural numbers. -/
theorem neighbours : ∀ j : Fin 254, IntOp.addi (BitVec.ofNat 32 j.val) 1#32 = BitVec.ofNat 32 (j.val + 1)
    ∧ IntOp.subi 253#32 (BitVec.ofNat 32 j.val) = BitVec.ofNat 32 (253 - j.val) := by
  decide +kernel

/-- Scale and inverse of a field `j` between 1 and 252: `2^(j - 126)` and `2^(126 - j)`. -/
theorem bits_of_field (p : EReal) (j : Nat) (h1 : 1 ≤ j) (h2 : j ≤ 252) (h : fieldFix p = BitVec.ofNat 32 j) :
    scaleBits p = (((2 : ℝ) ^ ((j : ℤ) - 126) : ℝ) : EReal) ∧ invBits p = (((2 : ℝ) ^ (126 - (j : ℤ)) : ℝ) : EReal) := by
  obtain ⟨ha, hb⟩ := neighbours ⟨j, by omega⟩
  simp only at ha hb
  unfold scaleBits invBits
  rw [h, ha, hb, shl_field ⟨j + 1, by omega⟩, shl_field ⟨253 - j, by omega⟩]
  simp only
  rw [ofBits_field (j + 1) (by omega) (by omega), ofBits_field (253 - j) (by omega) (by omega)]
  constructor
  · congr 2; push_cast; ring
  · congr 2; rw [Nat.cast_sub (by omega)]; push_cast; ring

/-- Out of the range the fixed field is 126. -/
theorem fieldFix_out (p : EReal) (h : p < Ideal.ofBits .f32 0x00800000#32 ∨ Ideal.ofBits .f32 0x7E800000#32 ≤ p) :
    fieldFix p = 126#32 := by
  unfold fieldFix
  by_cases hc : Ideal.ofBits .f32 0x7E800000#32 ≤ p
  · have e : fieldCap p = BitVec.ofNat 32 255 := by unfold fieldCap; rw [if_pos hc]
    rw [e, fix_table ⟨255, by omega⟩]; rfl
  · have hl : p < Ideal.ofBits .f32 0x00800000#32 := h.resolve_right hc
    have e : fieldCap p = BitVec.ofNat 32 0 := by
      unfold fieldCap; rw [if_neg hc]
      refine field_eq p 0 (by omega) fun j h1 h2 => ⟨fun hj => ?_, fun hj => by omega⟩
      exfalso
      refine absurd (lt_of_le_of_lt hj hl) (not_lt.mpr ?_)
      rw [ofBits_lo]
      by_cases h255 : j = 255
      · subst h255; rw [ofBits_field_top]; exact le_top
      · rw [ofBits_field j h1 (by omega), EReal.coe_le_coe_iff]
        exact zpow_le_zpow_right₀ (by norm_num) (by omega)
    rw [e, fix_table ⟨0, by omega⟩]; rfl

/-- Within the range, with `n = ⌊log₂ p⌋`: the reference's exponent is `n + 1`, the kernel's field `n + 127`. -/
theorem inside (p : EReal) (h : ¬(p < Ideal.ofBits .f32 0x00800000#32 ∨ Ideal.ofBits .f32 0x7E800000#32 ≤ p)) :
    ∃ n : ℤ, -126 ≤ n ∧ n ≤ 125 ∧ expo p = (((n + 1 : ℤ) : ℝ) : EReal) ∧ fieldFix p = BitVec.ofNat 32 (n + 127).toNat := by
  have hx : expo p = Ideal.liftRound Int.floor (Ideal.div (Ideal.log p) (Ideal.log (Ideal.ofBits .f32 0x40000000#32))) + 1 := by
    unfold expo; rw [if_neg h]
  obtain ⟨hlo, hhi⟩ := not_or.mp h
  rw [not_lt] at hlo
  have hcap : fieldCap p = field p := by unfold fieldCap; rw [if_neg hhi]
  rw [not_le] at hhi
  rw [ofBits_lo] at hlo
  rw [ofBits_hi] at hhi
  induction p with
  | bot => exact absurd (le_bot_iff.mp hlo) (EReal.coe_ne_bot _)
  | top => exact absurd hhi (not_lt.mpr le_top)
  | coe r =>
    rw [EReal.coe_le_coe_iff] at hlo
    rw [EReal.coe_lt_coe_iff] at hhi
    have hr : 0 < r := lt_of_lt_of_le (by positivity) hlo
    have g1 : -126 ≤ lg r := (zpow_le_iff r hr _).mp hlo
    have g2 : lg r < 126 := not_le.mp fun h => absurd hhi (not_lt.mpr ((zpow_le_iff r hr _).mpr h))
    refine ⟨lg r, g1, by omega, ?_, ?_⟩
    · rw [hx, ofBits_two]
      have hl2 : Real.log 2 ≠ 0 := (Real.log_pos (by norm_num)).ne'
      have e1 : Ideal.log (r : EReal) = (Real.log r : EReal) := by
        show (if r ≤ 0 then ⊥ else (Real.log r : EReal)) = _
        rw [if_neg (by linarith)]
      have e2 : Ideal.log ((2 : ℝ) : EReal) = (Real.log 2 : EReal) := by
        show (if (2 : ℝ) ≤ 0 then ⊥ else (Real.log 2 : EReal)) = _
        rw [if_neg (by norm_num)]
      rw [e1, e2]
      unfold Ideal.div
      rw [if_neg (by exact_mod_cast hl2), ← EReal.coe_inv, ← EReal.coe_mul]
      rw [← div_eq_mul_inv]
      show (((lg r : ℤ) : ℝ) : EReal) + 1 = _
      push_cast
      rfl
    · unfold fieldFix
      rw [hcap, field_eq (r : EReal) (lg r + 127).toNat (by omega)
        fun j h1 h2 => field_le_iff r hr _ (by omega) (by omega) j h1 h2,
        fix_table ⟨(lg r + 127).toNat, by omega⟩]
      simp only
      rw [if_neg (by omega)]

/-- Two raised to an integer, as the reference raises it. -/
theorem exp2_int (n : ℤ) : Ideal.exp2 (((n : ℤ) : ℝ) : EReal) = (((2 : ℝ) ^ n : ℝ) : EReal) := by
  show ((Real.rpow 2 (n : ℝ) : ℝ) : EReal) = _
  congr 1
  exact Real.rpow_intCast 2 n

/-- Two to the power zero is one. -/
theorem exp2_zero : Ideal.exp2 0 = (((2 : ℝ) ^ (0 : ℤ) : ℝ) : EReal) := by
  have := exp2_int 0
  simpa using this

/-- THE SCALES AGREE: the float the kernel builds is two to the reference's exponent. -/
theorem scaleBits_eq (p : EReal) : scaleBits p = Ideal.exp2 (expo p) := by
  by_cases h : p < Ideal.ofBits .f32 0x00800000#32 ∨ Ideal.ofBits .f32 0x7E800000#32 ≤ p
  · rw [(bits_of_field p 126 (by omega) (by omega) (fieldFix_out p h)).1, show expo p = 0 by unfold expo; rw [if_pos h],
      exp2_zero]
    norm_num
  · obtain ⟨n, h1, h2, he, hf⟩ := inside p h
    rw [(bits_of_field p _ (by omega) (by omega) hf).1, he, exp2_int]
    congr 2
    omega

/-- THE INVERSES AGREE: the other float the kernel builds is two to the reference's exponent, negated. -/
theorem invBits_eq (p : EReal) : invBits p = Ideal.exp2 (0 - expo p) := by
  by_cases h : p < Ideal.ofBits .f32 0x00800000#32 ∨ Ideal.ofBits .f32 0x7E800000#32 ≤ p
  · rw [(bits_of_field p 126 (by omega) (by omega) (fieldFix_out p h)).2, show expo p = 0 by unfold expo; rw [if_pos h],
      sub_zero, exp2_zero]
    norm_num
  · obtain ⟨n, h1, h2, he, hf⟩ := inside p h
    rw [(bits_of_field p _ (by omega) (by omega) hf).2, he, zero_sub, ← EReal.coe_neg, ← Int.cast_neg, exp2_int]
    congr 2
    omega

end Cert.Delta

end
-- ==== Proof.Spec.lean ====
/- One decode step of the gated delta rule for ONE batch entry and ONE head, written on extended reals: what both programs'
   three result arrays hold, row by row. -/
module

public import proofs.«01_k».proof.Proof.Exponent

@[expose] public section

noncomputable section

namespace Cert.Delta

open Idealize.ShloMosaic

/-- Two to a power, by its own name. -/
theorem exp2_name (x : Ideal .f32) : FloatOps.exp2 x = Ideal.exp2 x := rfl

/-- A row scaled to unit length: `x i · (∑ x² + 10⁻⁶)^(-1/2)`. -/
def unit (x : Fin 256 → EReal) (i : Fin 256) : EReal :=
  x i * Ideal.rsqrt (∑ j, x j * x j + Ideal.ofBits .f32 0x358637BD#32)

/-- The query row: of unit length, times `256^(-1/2)`. -/
def query (q : Fin 256 → EReal) (i : Fin 256) : EReal := unit q i * Ideal.ofBits .f32 0x3D800000#32

/-- A row put through the dequantised state: `(∑ᵢ x i · C v i) · S v`. -/
def through (x : Fin 256 → EReal) (C : Fin 512 → Fin 256 → EReal) (S : Fin 512 → EReal) (v : Fin 512) : EReal :=
  (∑ i, x i * C v i) * S v

/-- The delta row: `β · (v − e^g · state k)`. -/
def delta (k : Fin 256 → EReal) (vv : Fin 512 → EReal) (g β : EReal) (C : Fin 512 → Fin 256 → EReal) (S : Fin 512 → EReal)
    (v : Fin 512) : EReal :=
  β * (vv v - Ideal.exp g * through (unit k) C S v)

/-- The output row: `e^g · state q + (q · k) · delta`. -/
def outRow (q k : Fin 256 → EReal) (vv : Fin 512 → EReal) (g β : EReal) (C : Fin 512 → Fin 256 → EReal)
    (S : Fin 512 → EReal) (v : Fin 512) : EReal :=
  Ideal.exp g * through (query q) C S v + (∑ i, query q i * unit k i) * delta k vv g β C S v

/-- The new state: `e^g · (codes · scales) + delta ⊗ k`. -/
def state (k : Fin 256 → EReal) (vv : Fin 512 → EReal) (g β : EReal) (C : Fin 512 → Fin 256 → EReal) (S : Fin 512 → EReal)
    (v : Fin 512) (i : Fin 256) : EReal :=
  Ideal.exp g * (C v i * S v) + delta k vv g β C S v * unit k i

/-- A row's largest absolute value over 448. -/
def peak (x : Fin 256 → EReal) : EReal :=
  Finset.univ.fold max (Ideal.ofBits .f32 0xFF800000#32) (fun i => (FloatOps.absf (F := Ideal) (φ := .f32) (x i) : EReal))
    * Ideal.ofBits .f32 0x3B124925#32

/-- The scale of a quantised row: a power of two. -/
def scaleOf (x : Fin 256 → EReal) : EReal := Ideal.exp2 (expo (peak x))

/-- The codes of a quantised row: over its scale, clipped at 448. -/
def codeOf (x : Fin 256 → EReal) (i : Fin 256) : EReal :=
  min (Ideal.ofBits .f32 0x43E00000#32)
    (max (Ideal.ofBits .f32 0xC3E00000#32) (x i * Ideal.exp2 (0 - expo (peak x))))

end Cert.Delta

end
-- ==== Proof.RefRun.lean ====
/- The reference's run, its three result arrays named: the reference is one gridless call, whose every window is the whole of
   its array, so each result array is the body's stored term (`G7`, `G8`, `G9`) of the argument arrays. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S320x1x6x512.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S320x6x512x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S320x6x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Closed form at one grid point: every window's block is its array -/

/-- The offsets of the access to array 0 are zero. -/
theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S320x1x6x256.Idx) : ((cfg0.win 0).blk t).view.emb j = j := by
  obtain ⟨e0, e1, e2, e3⟩ := idx_zero0 t
  funext a; apply Fin.ext
  match a with
  | ⟨0, _⟩ => show win0_0.index t (0 : Fin 4) * 320 + 1 * (j 0).val = (j 0).val; omega
  | ⟨1, _⟩ => show win0_0.index t (1 : Fin 4) * 1 + 1 * (j 1).val = (j 1).val; omega
  | ⟨2, _⟩ => show win0_0.index t (2 : Fin 4) * 6 + 1 * (j 2).val = (j 2).val; omega
  | ⟨3, _⟩ => show win0_0.index t (3 : Fin 4) * 256 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The offsets of the access to array 1 are zero. -/
theorem hz1 : (![0, 0, 0, 0] : Fin 4 → Nat) = fun _ => 0 := funext fun a => by fin_cases a <;> rfl

/-- Window 1's block index at the one point is zero on every axis. -/
theorem idx_zero1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- An index of window 1's block is the same index of its array. -/
theorem emb1 (t : Fin cfg0.N) (j : S320x1x6x256.Idx) : ((cfg0.win 1).blk t).view.emb j = j := by
  obtain ⟨e0, e1, e2, e3⟩ := idx_zero1 t
  funext a; apply Fin.ext
  match a with
  | ⟨0, _⟩ => show win0_1.index t (0 : Fin 4) * 320 + 1 * (j 0).val = (j 0).val; omega
  | ⟨1, _⟩ => show win0_1.index t (1 : Fin 4) * 1 + 1 * (j 1).val = (j 1).val; omega
  | ⟨2, _⟩ => show win0_1.index t (2 : Fin 4) * 6 + 1 * (j 2).val = (j 2).val; omega
  | ⟨3, _⟩ => show win0_1.index t (3 : Fin 4) * 256 + 1 * (j 3).val = (j 3).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- The offsets of the access to array 2 are zero. -/
theorem hz2 : (![0, 0, 0, 0] : Fin 4 → Nat) = fun _ => 0 := funext fun a => by fin_cases a <;> rfl

/-- Window 2's block index at the one point is zero on every axis. -/
theorem idx_zero2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

/-- An index of window 2's block is the same index of its array. -/
theorem emb2 (t : Fin cfg0.N) (j : S320x1x6x512.Idx) : ((cfg0.win 2).blk t).view.emb j = j := by
  obtain ⟨e0, e1, e2, e3⟩ := idx_zero2 t
  funext a; apply Fin.ext
  match a with
  | ⟨0, _⟩ => show win0_2.index t (0 : Fin 4) * 320 + 1 * (j 0).val = (j 0).val; omega
  | ⟨1, _⟩ => show win0_2.index t (1 : Fin 4) * 1 + 1 * (j 1).val = (j 1).val; omega
  | ⟨2, _⟩ => show win0_2.index t (2 : Fin 4) * 6 + 1 * (j 2).val = (j 2).val; omega
  | ⟨3, _⟩ => show win0_2.index t (3 : Fin 4) * 512 + 1 * (j 3).val = (j 3).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- The offsets of the access to array 3 are zero. -/
theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S320x1x6.Idx) : ((cfg0.win 3).blk t).view.emb j = j := by
  obtain ⟨e0, e1, e2⟩ := idx_zero3 t
  funext a; apply Fin.ext
  match a with
  | ⟨0, _⟩ => show win0_3.index t (0 : Fin 3) * 320 + 1 * (j 0).val = (j 0).val; omega
  | ⟨1, _⟩ => show win0_3.index t (1 : Fin 3) * 1 + 1 * (j 1).val = (j 1).val; omega
  | ⟨2, _⟩ => show win0_3.index t (2 : Fin 3) * 6 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

/-- The offsets of the access to array 4 are zero. -/
theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S320x1x6.Idx) : ((cfg0.win 4).blk t).view.emb j = j := by
  obtain ⟨e0, e1, e2⟩ := idx_zero4 t
  funext a; apply Fin.ext
  match a with
  | ⟨0, _⟩ => show win0_4.index t (0 : Fin 3) * 320 + 1 * (j 0).val = (j 0).val; omega
  | ⟨1, _⟩ => show win0_4.index t (1 : Fin 3) * 1 + 1 * (j 1).val = (j 1).val; omega
  | ⟨2, _⟩ => show win0_4.index t (2 : Fin 3) * 6 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

/-- The offsets of the access to array 5 are zero. -/
theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S320x6x512x256.Idx) : ((cfg0.win 5).blk t).view.emb j = j := by
  obtain ⟨e0, e1, e2, e3⟩ := idx_zero5 t
  funext a; apply Fin.ext
  match a with
  | ⟨0, _⟩ => show win0_5.index t (0 : Fin 4) * 320 + 1 * (j 0).val = (j 0).val; omega
  | ⟨1, _⟩ => show win0_5.index t (1 : Fin 4) * 6 + 1 * (j 1).val = (j 1).val; omega
  | ⟨2, _⟩ => show win0_5.index t (2 : Fin 4) * 512 + 1 * (j 2).val = (j 2).val; omega
  | ⟨3, _⟩ => show win0_5.index t (3 : Fin 4) * 256 + 1 * (j 3).val = (j 3).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

/-- The offsets of the access to array 6 are zero. -/
theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S320x6x512.Idx) : ((cfg0.win 6).blk t).view.emb j = j := by
  obtain ⟨e0, e1, e2⟩ := idx_zero6 t
  funext a; apply Fin.ext
  match a with
  | ⟨0, _⟩ => show win0_6.index t (0 : Fin 3) * 320 + 1 * (j 0).val = (j 0).val; omega
  | ⟨1, _⟩ => show win0_6.index t (1 : Fin 3) * 6 + 1 * (j 1).val = (j 1).val; omega
  | ⟨2, _⟩ => show win0_6.index t (2 : Fin 3) * 512 + 1 * (j 2).val = (j 2).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

/-- The offsets of the access to array 7 are zero. -/
theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S320x1x6x512.Idx) : ((cfg0.win 7).blk t).view.emb j = j := by
  obtain ⟨e0, e1, e2, e3⟩ := idx_zero7 t
  funext a; apply Fin.ext
  match a with
  | ⟨0, _⟩ => show win0_7.index t (0 : Fin 4) * 320 + 1 * (j 0).val = (j 0).val; omega
  | ⟨1, _⟩ => show win0_7.index t (1 : Fin 4) * 1 + 1 * (j 1).val = (j 1).val; omega
  | ⟨2, _⟩ => show win0_7.index t (2 : Fin 4) * 6 + 1 * (j 2).val = (j 2).val; omega
  | ⟨3, _⟩ => show win0_7.index t (3 : Fin 4) * 512 + 1 * (j 3).val = (j 3).val; omega

/-- The offsets of the access to array 8 are zero. -/
theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S320x6x512x256.Idx) : ((cfg0.win 8).blk t).view.emb j = j := by
  obtain ⟨e0, e1, e2, e3⟩ := idx_zero8 t
  funext a; apply Fin.ext
  match a with
  | ⟨0, _⟩ => show win0_8.index t (0 : Fin 4) * 320 + 1 * (j 0).val = (j 0).val; omega
  | ⟨1, _⟩ => show win0_8.index t (1 : Fin 4) * 6 + 1 * (j 1).val = (j 1).val; omega
  | ⟨2, _⟩ => show win0_8.index t (2 : Fin 4) * 512 + 1 * (j 2).val = (j 2).val; omega
  | ⟨3, _⟩ => show win0_8.index t (3 : Fin 4) * 256 + 1 * (j 3).val = (j 3).val; omega

/-- The offsets of the access to array 9 are zero. -/
theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S320x6x512.Idx) : ((cfg0.win 9).blk t).view.emb j = j := by
  obtain ⟨e0, e1, e2⟩ := idx_zero9 t
  funext a; apply Fin.ext
  match a with
  | ⟨0, _⟩ => show win0_9.index t (0 : Fin 3) * 320 + 1 * (j 0).val = (j 0).val; omega
  | ⟨1, _⟩ => show win0_9.index t (1 : Fin 3) * 6 + 1 * (j 1).val = (j 1).val; omega
  | ⟨2, _⟩ => show win0_9.index t (2 : Fin 3) * 512 + 1 * (j 2).val = (j 2).val; omega

/-! ### Output window 7: the array after the run -/

/-- What the window's array ends holding: `out0_7` applied to the argument arrays in place of the input blocks (a value that the
    frame states apart, `kK_payN a…`, keeps its loads inside its own definition). -/
abbrev G7 (a0 : Vec F S320x1x6x256 .bf16) (a1 : Vec F S320x1x6x256 .bf16) (a2 : Vec F S320x1x6x512 .bf16) (a3 : Vec F S320x1x6 .f32) (a4 : Vec F S320x1x6 .f32) (a5 : Vec F S320x6x512x256 .fp8e4m3) (a6 : Vec F S320x6x512 .f32) : Vec F S320x1x6x512 .bf16 :=
  k0_pay11 a2 a3 a4 a5 a6 (k0_pay13 a0 a1 a2 a3 a4 a5 a6) (k0_pay14 a0 a1 a2 a3 a4 a5 a6)

/-- A load of the whole of a block reads the block, and the one store through the whole rectangle leaves its payload. -/
theorem out7_eq (a0 : Vec F S320x1x6x256 .bf16) (a1 : Vec F S320x1x6x256 .bf16) (a2 : Vec F S320x1x6x512 .bf16) (a3 : Vec F S320x1x6 .f32) (a4 : Vec F S320x1x6 .f32) (a5 : Vec F S320x6x512x256 .fp8e4m3) (a6 : Vec F S320x6x512 .f32) : out0_7 (F := F) a0 a1 a2 a3 a4 a5 a6 = G7 a0 a1 a2 a3 a4 a5 a6 := by
  unfold out0_7
  rw [View.canon_unit_zero hz7, View.ld_unit_zero (S := S320x1x6x512) hz2 _ a2, View.ld_unit_zero (S := S320x1x6) hz3 _ a3, View.ld_unit_zero (S := S320x1x6) hz4 _ a4, View.ld_unit_zero (S := S320x6x512x256) hz5 _ a5, View.ld_unit_zero (S := S320x6x512) hz6 _ a6]

/-- Cutting the point's block out of `X` and reading `X` through the block's view give the same. -/
theorem cut7_eq (t : Fin cfg0.N) (X : Vec F S320x1x6x512 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S320x1x6x512.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S320x1x6x256 .bf16) (a1 : Vec F S320x1x6x256 .bf16) (a2 : Vec F S320x1x6x512 .bf16) (a3 : Vec F S320x1x6 .f32) (a4 : Vec F S320x1x6 .f32) (a5 : Vec F S320x6x512x256 .fp8e4m3) (a6 : Vec F S320x6x512 .f32) : Vec F S320x6x512x256 .fp8e4m3 :=
  k0_pay3 (k0_pay10 a2 a3 a4 a5 a6 (k0_pay13 a0 a1 a2 a3 a4 a5 a6) (k0_pay14 a0 a1 a2 a3 a4 a5 a6)) (k0_pay15 a0 a1 a2 a3 a4 a5 a6)

/-- A load of the whole of a block reads the block, and the one store through the whole rectangle leaves its payload. -/
theorem out8_eq (a0 : Vec F S320x1x6x256 .bf16) (a1 : Vec F S320x1x6x256 .bf16) (a2 : Vec F S320x1x6x512 .bf16) (a3 : Vec F S320x1x6 .f32) (a4 : Vec F S320x1x6 .f32) (a5 : Vec F S320x6x512x256 .fp8e4m3) (a6 : Vec F S320x6x512 .f32) : out0_8 (F := F) a0 a1 a2 a3 a4 a5 a6 = G8 a0 a1 a2 a3 a4 a5 a6 := by
  unfold out0_8
  rw [View.canon_unit_zero hz8, View.ld_unit_zero (S := S320x1x6x512) hz2 _ a2, View.ld_unit_zero (S := S320x1x6) hz3 _ a3, View.ld_unit_zero (S := S320x1x6) hz4 _ a4, View.ld_unit_zero (S := S320x6x512x256) hz5 _ a5, View.ld_unit_zero (S := S320x6x512) hz6 _ a6]

/-- Cutting the point's block out of `X` and reading `X` through the block's view give the same. -/
theorem cut8_eq (t : Fin cfg0.N) (X : Vec F S320x6x512x256 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S320x6x512x256.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S320x1x6x256 .bf16) (a1 : Vec F S320x1x6x256 .bf16) (a2 : Vec F S320x1x6x512 .bf16) (a3 : Vec F S320x1x6 .f32) (a4 : Vec F S320x1x6 .f32) (a5 : Vec F S320x6x512x256 .fp8e4m3) (a6 : Vec F S320x6x512 .f32) : Vec F S320x6x512 .f32 :=
  k0_pay2 (k0_pay15 a0 a1 a2 a3 a4 a5 a6)

/-- The one store through the whole rectangle leaves its payload. -/
theorem out9_eq (a0 : Vec F S320x1x6x256 .bf16) (a1 : Vec F S320x1x6x256 .bf16) (a2 : Vec F S320x1x6x512 .bf16) (a3 : Vec F S320x1x6 .f32) (a4 : Vec F S320x1x6 .f32) (a5 : Vec F S320x6x512x256 .fp8e4m3) (a6 : Vec F S320x6x512 .f32) : out0_9 (F := F) a0 a1 a2 a3 a4 a5 a6 = G9 a0 a1 a2 a3 a4 a5 a6 := by
  unfold out0_9
  rw [View.canon_unit_zero hz9]

/-- Cutting the point's block out of `X` and reading `X` through the block's view give the same. -/
theorem cut9_eq (t : Fin cfg0.N) (X : Vec F S320x6x512 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S320x6x512.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Value

end
-- ==== Proof.RefValue.lean ====
/- The reference's three result arrays, index by index, are the decode step of `Spec.lean` on the argument arrays' rows. -/
module

public import proofs.«01_k».proof.Proof.Spec
public import proofs.«01_k».proof.Proof.RefRun

@[expose] public section

set_option maxRecDepth 16384

noncomputable section

namespace Cert.ReferenceIdeal.Value

open Cert.ReferenceIdeal Cert.ReferenceIdeal.Gen Cert.Delta Idealize.ShloMosaic

variable (q k : Vec Ideal S320x1x6x256 .bf16) (vv : Vec Ideal S320x1x6x512 .bf16) (g β : Vec Ideal S320x1x6 .f32)
  (C : Vec Ideal S320x6x512x256 .fp8e4m3) (S : Vec Ideal S320x6x512 .f32)

/-- The loaded query rows, normalised and scaled. -/
theorem query_eq (b : Fin 320) (h : Fin 6) (i : Fin 256) :
    k0_pay13 (F := Ideal) q k vv g β C S (ix3 b h i) = query (fun i => q (ix4 b 0 h i)) i := by
  unfold k0_pay13
  pointwise [k0_pay4]
  rfl

/-- The loaded key rows, normalised. -/
theorem key_eq (b : Fin 320) (h : Fin 6) (i : Fin 256) :
    k0_pay14 (F := Ideal) q k vv g β C S (ix3 b h i) = unit (fun i => k (ix4 b 0 h i)) i := by
  unfold k0_pay14
  pointwise [k0_pay5]
  rfl

/-- The reference's delta array. -/
theorem delta_eq (b : Fin 320) (h : Fin 6) (v : Fin 512) :
    k0_pay9 (F := Ideal) vv g β C S (k0_pay13 q k vv g β C S) (k0_pay14 q k vv g β C S) (ix3 b h v)
      = delta (fun i => k (ix4 b 0 h i)) (fun v => vv (ix4 b 0 h v)) (g (ix3 b 0 h)) (β (ix3 b 0 h))
          (fun v i => C (ix4 b h v i)) (fun v => S (ix3 b h v)) v := by
  pointwise [k0_pay9, k0_pay8, k0_pay7, k0_pay6]
  simp only [key_eq]
  rfl

/-- The reference's new state array. -/
theorem state_eq (b : Fin 320) (h : Fin 6) (v : Fin 512) (i : Fin 256) :
    k0_pay10 (F := Ideal) vv g β C S (k0_pay13 q k vv g β C S) (k0_pay14 q k vv g β C S) (ix4 b h v i)
      = state (fun i => k (ix4 b 0 h i)) (fun v => vv (ix4 b 0 h v)) (g (ix3 b 0 h)) (β (ix3 b 0 h))
          (fun v i => C (ix4 b h v i)) (fun v => S (ix3 b h v)) v i := by
  pointwise [k0_pay10, k0_pay7, k0_pay6]
  simp only [key_eq, delta_eq]
  rfl

/-- The reference's first result array. -/
theorem G7_eq (b : Fin 320) (h : Fin 6) (v : Fin 512) :
    G7 (F := Ideal) q k vv g β C S (ix4 b 0 h v)
      = outRow (fun i => q (ix4 b 0 h i)) (fun i => k (ix4 b 0 h i)) (fun v => vv (ix4 b 0 h v)) (g (ix3 b 0 h))
          (β (ix3 b 0 h)) (fun v i => C (ix4 b h v i)) (fun v => S (ix3 b h v)) v := by
  unfold G7
  pointwise [k0_pay11, k0_pay7, k0_pay6, k0_pay8]
  simp only [key_eq, query_eq, delta_eq]
  rfl

/-- The reference's largest absolute values, over 448. -/
theorem peak_eq (b : Fin 320) (h : Fin 6) (v : Fin 512) :
    k0_pay15 (F := Ideal) q k vv g β C S (ix3 b h v) * Ideal.ofBits .f32 0x3B124925#32
      = peak (state (fun i => k (ix4 b 0 h i)) (fun v => vv (ix4 b 0 h v)) (g (ix3 b 0 h)) (β (ix3 b 0 h))
          (fun v i => C (ix4 b h v i)) (fun v => S (ix3 b h v)) v) := by
  unfold k0_pay15 peak
  rw [View.ld_unit_zero (S := S320x1x6x512) hz2 _ vv, View.ld_unit_zero (S := S320x1x6) hz3 _ g,
    View.ld_unit_zero (S := S320x1x6) hz4 _ β, View.ld_unit_zero (S := S320x6x512x256) hz5 _ C,
    View.ld_unit_zero (S := S320x6x512) hz6 _ S]
  refine congrArg (· * Ideal.ofBits .f32 0x3B124925#32) ?_
  pointwise [k0_pay12]
  refine congrArg (fun f => Finset.fold max (Ideal.ofBits .f32 0xFF800000#32) f Finset.univ) (funext fun i => ?_)
  exact congrArg FloatOps.absf (state_eq q k vv g β C S b h v i)

/-- The exponent the reference takes, from a largest value `p`. -/
theorem expo_eq (a : FVec Ideal S320x6x512 .f32) (j : S320x6x512.Idx) (p : EReal)
    (hp : a j * Ideal.ofBits .f32 0x3B124925#32 = p) : k0_pay1 (F := Ideal) a j = expo p := by
  pointwise [k0_pay1]
  rw [hp]
  unfold expo
  by_cases h1 : p < Ideal.ofBits .f32 0x00800000#32 <;> by_cases h2 : Ideal.ofBits .f32 0x7E800000#32 ≤ p <;>
    simp [h1, h2, Scalar.select, IntOp.ori]

/-- The scale the reference takes, from a largest value `p`. -/
theorem scale_of (a : FVec Ideal S320x6x512 .f32) (b : Fin 320) (h : Fin 6) (v : Fin 512) (p : EReal)
    (hp : a (ix3 b h v) * Ideal.ofBits .f32 0x3B124925#32 = p) : k0_pay2 (F := Ideal) a (ix3 b h v) = Ideal.exp2 (expo p) := by
  pointwise [k0_pay2]
  rw [expo_eq _ _ _ hp, exp2_name]

/-- The code the reference takes, from a state element `x` and a row's largest value `p`. -/
theorem code_of (s : FVec Ideal S320x6x512x256 .f32) (a : FVec Ideal S320x6x512 .f32) (b : Fin 320) (h : Fin 6)
    (v : Fin 512) (i : Fin 256) (x p : EReal) (hx : s (ix4 b h v i) = x)
    (hp : a (ix3 b h v) * Ideal.ofBits .f32 0x3B124925#32 = p) :
    k0_pay3 (F := Ideal) s a (ix4 b h v i)
      = min (Ideal.ofBits .f32 0x43E00000#32) (max (Ideal.ofBits .f32 0xC3E00000#32) (x * Ideal.exp2 (0 - expo p))) := by
  pointwise [k0_pay3]
  rw [hx, expo_eq _ _ _ hp, exp2_name]

/-- The reference's third result array: the scales. -/
theorem G9_eq (b : Fin 320) (h : Fin 6) (v : Fin 512) :
    G9 (F := Ideal) q k vv g β C S (ix3 b h v)
      = scaleOf (state (fun i => k (ix4 b 0 h i)) (fun v => vv (ix4 b 0 h v)) (g (ix3 b 0 h)) (β (ix3 b 0 h))
          (fun v i => C (ix4 b h v i)) (fun v => S (ix3 b h v)) v) :=
  scale_of _ b h v _ (peak_eq q k vv g β C S b h v)

/-- The reference's second result array: the codes. -/
theorem G8_eq (b : Fin 320) (h : Fin 6) (v : Fin 512) (i : Fin 256) :
    G8 (F := Ideal) q k vv g β C S (ix4 b h v i)
      = codeOf (state (fun i => k (ix4 b 0 h i)) (fun v => vv (ix4 b 0 h v)) (g (ix3 b 0 h)) (β (ix3 b 0 h))
          (fun v i => C (ix4 b h v i)) (fun v => S (ix3 b h v)) v) i :=
  code_of _ _ b h v i _ _ (state_eq q k vv g β C S b h v i) (peak_eq q k vv g β C S b h v)

end Cert.ReferenceIdeal.Value

end
-- ==== Proof.Quant.lean ====
/- The kernel's quantiser, as one function of the block it quantises, and its values index by index. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Value

open Cert.KernelIdeal Cert.KernelIdeal.Gen Cert.Delta Idealize.ShloMosaic

/-- A row of float values, one per state row. -/
abbrev Row := FVec Ideal S1x512 .f32

/-- A row of words. -/
abbrev Words := IVec S1x512 32

/-- One step of the search for the exponent field: take the bit if the power of two it makes is at most the value. -/
def vstep (p : Row) (bit : BitVec 32) (be : Words) : Words :=
  select (cmpf .oge p (bitcastToFloat .f32 (shli (addi be (broadcast S1x512 bit)) (broadcast S1x512 23#32))))
    (addi be (broadcast S1x512 bit)) be

/-- The end of the search: 255 from `2^126` on, and the two ends of the range replaced by 126. -/
def vcap (p : Row) (be : Words) : Words :=
  select (cmpf .oge p (broadcast S1x512 (Scalar.ofBits .f32 0x7E800000#32))) (broadcast S1x512 255#32) be

/-- The two ends of the range replaced by 126. -/
def vends (be : Words) : Words :=
  select (ori (cmpi .eq be (broadcast S1x512 0#32)) (cmpi .eq be (broadcast S1x512 255#32))) (broadcast S1x512 126#32) be

/-- The whole search. -/
def vfix (p : Row) : Words :=
  vends (vcap p (vstep p 1#32 (vstep p 2#32 (vstep p 4#32 (vstep p 8#32 (vstep p 16#32 (vstep p 32#32 (vstep p 64#32
    (vstep p 128#32 (broadcast S1x512 0#32))))))))))

/-- The stored scales. -/
def vscale (be : Words) : FVec Ideal S1x1x512 .f32 :=
  shapeCast S1x1x512 (bitcastToFloat .f32 (shli (addi be (broadcast S1x512 1#32)) (broadcast S1x512 23#32)))
    shapeCasts_S1x512_S1x1x512

/-- The inverses of the scales. -/
def vinv (be : Words) : Row :=
  bitcastToFloat .f32 (shli (subi (broadcast S1x512 253#32) be) (broadcast S1x512 23#32))

/-- The stored codes of a block. -/
def vcodes (s : FVec Ideal S256x512 .f32) (r : Row) : FVec Ideal S1x1x512x256 .fp8e4m3 :=
  shapeCast S1x1x512x256 (transpose S512x256 [1, 0] (truncf .fp8e4m3
    (minimumf (broadcast S256x512 (Scalar.ofBits .f32 0x43E00000#32))
      (maximumf (broadcast S256x512 (Scalar.ofBits .f32 0xC3E00000#32))
        (mulf s (broadcastTo S256x512 r broadcasts_S1x512_S256x512)))) bitsLt_fp8e4m3_f32)
    transposes_S256x512_p1_0_S512x256) shapeCasts_S512x256_S1x1x512x256

/-- A block's largest absolute values over 448, one per state row. -/
def vpeak (s : FVec Ideal S256x512 .f32) : Row :=
  mulf (shapeCast S1x512 (multiReduction .maximumf [0] S512 (absf s) 0xFF800000#32 reduces_S256x512_S512 (.inl rfl) rfl)
    shapeCasts_S512_S1x512) (broadcast S1x512 (Scalar.ofBits .f32 0x3B124925#32))

/-- A head's new state: its codes transposed by the product with the unit matrix, times the decayed scales, plus the product of key
    and delta. -/
def vstate (eye : FVec Ideal S256x256 .bf16) (kr : FVec Ideal S1x256 .f32) (cr dr : Row)
    (C : Vec Ideal S1x1x512x256 .fp8e4m3) : FVec Ideal S256x512 .f32 :=
  let t : FVec Ideal S256x128 .f32 := transpose S256x128 [1, 0]
    (extractStridedSlice S128x256 ![0, 0]
      (broadcastTo S256x256 (shapeCast S1x256 kr shapeCasts_S1x256_S1x256) broadcasts_S1x256_S256x256)
      slices_S256x256_o0_0_S128x256) transposes_S128x256_p1_0_S256x128
  addf
    (mulf (matmul dot_S256x256_S512x256_S256x512_1_1_0_0_n_n none eye
        (shapeCast S512x256 C shapeCasts_S1x1x512x256_S512x256 : FVec Ideal S512x256 .fp8e4m3) (constant S256x512 .f32 0x00000000#32))
      (broadcastTo S256x512 cr broadcasts_S1x512_S256x512))
    (mulf (concatenate S256x512 1 [⟨S256x128, t⟩, ⟨S256x128, t⟩, ⟨S256x128, t⟩, ⟨S256x128, t⟩]
        concatenates_S256x128_S256x128_S256x128_S256x128_S256x512_d1)
      (broadcastTo S256x512 dr broadcasts_S1x512_S256x512))

/-- `vstep` at an index. -/
theorem vstep_apply (p : Row) (bit : BitVec 32) (be : Words) (v : Fin 512) :
    vstep p bit be (ix2 0 v) = fieldStep (p (ix2 0 v)) bit (be (ix2 0 v)) := by
  pointwise [vstep]
  rfl

/-- `vcap` at an index. -/
theorem vcap_apply (p : Row) (be : Words) (v : Fin 512) :
    vcap p be (ix2 0 v) = if Ideal.ofBits .f32 0x7E800000#32 ≤ p (ix2 0 v) then 255#32 else be (ix2 0 v) := by
  pointwise [vcap]

/-- `vends` at an index. -/
theorem vends_apply (be : Words) (v : Fin 512) :
    vends be (ix2 0 v) = Scalar.select (IntOp.ori (IntOp.cmpi .eq (be (ix2 0 v)) 0#32) (IntOp.cmpi .eq (be (ix2 0 v)) 255#32))
      126#32 (be (ix2 0 v)) := by
  pointwise [vends]

/-- The search, at one row, is the scalar search. -/
theorem vfix_apply (p : Row) (v : Fin 512) : vfix p (ix2 0 v) = fieldFix (p (ix2 0 v)) := by
  unfold vfix
  rw [vends_apply, vcap_apply]
  simp only [vstep_apply]
  rfl

/-- `vscale` at an index. -/
theorem vscale_apply (be : Words) (v : Fin 512) : vscale be (ix3 0 0 v)
    = Ideal.ofBits .f32 (IntOp.shli .vector (IntOp.addi (be (ix2 0 v)) 1#32) 23#32) := by
  pointwise [vscale]

/-- `vinv` at an index. -/
theorem vinv_apply (be : Words) (v : Fin 512) : vinv be (ix2 0 v)
    = Ideal.ofBits .f32 (IntOp.shli .vector (IntOp.subi 253#32 (be (ix2 0 v))) 23#32) := by
  pointwise [vinv]

/-- `vcodes` at an index. -/
theorem vcodes_apply (s : FVec Ideal S256x512 .f32) (r : Row) (v : Fin 512) (i : Fin 256) :
    vcodes s r (ix4 0 0 v i) = min (Ideal.ofBits .f32 0x43E00000#32)
      (max (Ideal.ofBits .f32 0xC3E00000#32) (s (ix2 i v) * r (ix2 0 v))) := by
  pointwise [vcodes]

/-- `vpeak` at an index. -/
theorem vpeak_apply (s : FVec Ideal S256x512 .f32) (v : Fin 512) : vpeak s (ix2 0 v) = peak fun i => s (ix2 i v) := by
  pointwise [vpeak]
  rfl

/-- `vstate` at an index. -/
theorem vstate_apply (eye : FVec Ideal S256x256 .bf16) (kr : FVec Ideal S1x256 .f32) (cr dr : Row)
    (C : Vec Ideal S1x1x512x256 .fp8e4m3) (i : Fin 256) (v : Fin 512) :
    vstate eye kr cr dr C (ix2 i v)
      = (∑ x, eye (ix2 i x) * C (ix4 0 0 v x)) * cr (ix2 0 v) + kr (ix2 0 i) * dr (ix2 0 v) := by
  pointwise [vstate]
  congr 2
  split_ifs <;> rfl

/-- The quantiser's scales of a block, row by row. -/
theorem qscale_apply (s : FVec Ideal S256x512 .f32) (v : Fin 512) :
    vscale (vfix (vpeak s)) (ix3 0 0 v) = scaleOf fun i => s (ix2 i v) := by
  rw [vscale_apply, vfix_apply, vpeak_apply]
  exact scaleBits_eq _

/-- The quantiser's codes of a block, row by row. -/
theorem qcodes_apply (s : FVec Ideal S256x512 .f32) (v : Fin 512) (i : Fin 256) :
    vcodes s (vinv (vfix (vpeak s))) (ix4 0 0 v i) = codeOf (fun i => s (ix2 i v)) i := by
  rw [vcodes_apply, vinv_apply, vfix_apply, vpeak_apply]
  rw [show Ideal.ofBits .f32 (IntOp.shli .vector (IntOp.subi 253#32 (fieldFix (peak fun i => s (ix2 i v)))) 23#32) = _ from
    invBits_eq (peak fun i => s (ix2 i v))]
  rfl

end Cert.KernelIdeal.Value

end
-- ==== Proof.Heads.lean ====
/- What one trip stores for each head: the quantiser of `Quant.lean` at that head's new state. -/
module

public import proofs.«01_k».proof.Proof.Quant

@[expose] public section

set_option maxRecDepth 16384

noncomputable section

namespace Cert.KernelIdeal.Value

open Cert.KernelIdeal Cert.KernelIdeal.Gen Cert.Delta Idealize.ShloMosaic

variable (eye : FVec Ideal S256x256 .bf16) (kn : FVec Ideal S6x256 .f32) (dl cc S : FVec Ideal S6x512 .f32)
  (a : FVec Ideal S6x1 .f32) (C : Vec Ideal S1x1x512x256 .fp8e4m3)

/-- Head 0's new state, from the trip's rows. -/
def head0 (cc : FVec Ideal S6x512 .f32) : FVec Ideal S256x512 .f32 :=
  vstate eye (extractStridedSlice S1x256 ![0, 0] kn slices_S6x256_o0_0_S1x256)
    (extractStridedSlice S1x512 ![0, 0] cc slices_S6x512_o0_0_S1x512)
    (extractStridedSlice S1x512 ![0, 0] dl slices_S6x512_o0_0_S1x512) C

/-- Head 0's stored scales. -/
theorem scale0 : k0_pay36 (k0_pay30 eye kn a S dl C) (k0_pay33 (k0_pay30 eye kn a S dl C) (k0_pay31 eye kn a S dl C) (k0_pay32 eye kn a S dl C)) (k0_pay34 (k0_pay30 eye kn a S dl C) (k0_pay31 eye kn a S dl C) (k0_pay32 eye kn a S dl C))
    = vscale (vfix (vpeak (head0 eye kn dl C (k0_pay28 a S)))) := rfl

/-- Head 0's stored codes. -/
theorem codes0 : k0_pay39 (k0_pay37 (k0_pay29 eye kn a S dl C) (k0_pay30 eye kn a S dl C) (k0_pay33 (k0_pay30 eye kn a S dl C) (k0_pay31 eye kn a S dl C) (k0_pay32 eye kn a S dl C)) (k0_pay34 (k0_pay30 eye kn a S dl C) (k0_pay31 eye kn a S dl C) (k0_pay32 eye kn a S dl C))) (FloatOps.ofBits FTy.f32 1138753536#32) k0_pay38
    = vcodes (head0 eye kn dl C (k0_pay28 a S)) (vinv (vfix (vpeak (head0 eye kn dl C (k0_pay28 a S))))) := rfl

/-- Head 1's new state, from the trip's rows. -/
def head1 (cc : FVec Ideal S6x512 .f32) : FVec Ideal S256x512 .f32 :=
  vstate eye (extractStridedSlice S1x256 ![1, 0] kn slices_S6x256_o1_0_S1x256)
    (extractStridedSlice S1x512 ![1, 0] cc slices_S6x512_o1_0_S1x512)
    (extractStridedSlice S1x512 ![1, 0] dl slices_S6x512_o1_0_S1x512) C

/-- Head 1's stored scales. -/
theorem scale1 : k0_pay49 (k0_pay41 eye kn dl cc C) (k0_pay45 (k0_pay41 eye kn dl cc C) (k0_pay42 eye kn dl cc C) (k0_pay43 eye kn dl cc C) k0_pay44) (k0_pay46 (k0_pay41 eye kn dl cc C) (k0_pay42 eye kn dl cc C) (k0_pay43 eye kn dl cc C) k0_pay44) k0_pay47
    = vscale (vfix (vpeak (head1 eye kn dl C cc))) := rfl

/-- Head 1's stored codes. -/
theorem codes1 : k0_pay51 (k0_pay50 (k0_pay40 eye kn dl cc C) (k0_pay41 eye kn dl cc C) (k0_pay45 (k0_pay41 eye kn dl cc C) (k0_pay42 eye kn dl cc C) (k0_pay43 eye kn dl cc C) k0_pay44) (k0_pay46 (k0_pay41 eye kn dl cc C) (k0_pay42 eye kn dl cc C) (k0_pay43 eye kn dl cc C) k0_pay44) k0_pay47) (FloatOps.ofBits FTy.f32 3286237184#32) (FloatOps.ofBits FTy.f32 1138753536#32)
    = vcodes (head1 eye kn dl C cc) (vinv (vfix (vpeak (head1 eye kn dl C cc)))) := rfl

/-- Head 2's new state, from the trip's rows. -/
def head2 (cc : FVec Ideal S6x512 .f32) : FVec Ideal S256x512 .f32 :=
  vstate eye (extractStridedSlice S1x256 ![2, 0] kn slices_S6x256_o2_0_S1x256)
    (extractStridedSlice S1x512 ![2, 0] cc slices_S6x512_o2_0_S1x512)
    (extractStridedSlice S1x512 ![2, 0] dl slices_S6x512_o2_0_S1x512) C

/-- Head 2's stored scales. -/
theorem scale2 : k0_pay59 (k0_pay53 eye kn dl cc C) (k0_pay56 (k0_pay53 eye kn dl cc C) (k0_pay54 eye kn dl cc C) (k0_pay55 eye kn dl cc C) 23#32) (k0_pay57 (k0_pay53 eye kn dl cc C) (k0_pay54 eye kn dl cc C) (k0_pay55 eye kn dl cc C) 23#32) 23#32
    = vscale (vfix (vpeak (head2 eye kn dl C cc))) := rfl

/-- Head 2's stored codes. -/
theorem codes2 : k0_pay61 (k0_pay60 (k0_pay52 eye kn dl cc C) (k0_pay53 eye kn dl cc C) (k0_pay56 (k0_pay53 eye kn dl cc C) (k0_pay54 eye kn dl cc C) (k0_pay55 eye kn dl cc C) 23#32) (k0_pay57 (k0_pay53 eye kn dl cc C) (k0_pay54 eye kn dl cc C) (k0_pay55 eye kn dl cc C) 23#32) 23#32) (FloatOps.ofBits FTy.f32 3286237184#32)
    = vcodes (head2 eye kn dl C cc) (vinv (vfix (vpeak (head2 eye kn dl C cc)))) := rfl

/-- Head 3's new state, from the trip's rows. -/
def head3 (cc : FVec Ideal S6x512 .f32) : FVec Ideal S256x512 .f32 :=
  vstate eye (extractStridedSlice S1x256 ![3, 0] kn slices_S6x256_o3_0_S1x256)
    (extractStridedSlice S1x512 ![3, 0] cc slices_S6x512_o3_0_S1x512)
    (extractStridedSlice S1x512 ![3, 0] dl slices_S6x512_o3_0_S1x512) C

/-- Head 3's stored scales. -/
theorem scale3 : k0_pay69 (k0_pay63 eye kn dl cc C) (k0_pay66 (k0_pay63 eye kn dl cc C) (k0_pay64 eye kn dl cc C) (k0_pay65 eye kn dl cc C)) (k0_pay67 (k0_pay63 eye kn dl cc C) (k0_pay64 eye kn dl cc C) (k0_pay65 eye kn dl cc C))
    = vscale (vfix (vpeak (head3 eye kn dl C cc))) := rfl

/-- Head 3's stored codes. -/
theorem codes3 : k0_pay71 (k0_pay70 (k0_pay62 eye kn dl cc C) (k0_pay63 eye kn dl cc C) (k0_pay66 (k0_pay63 eye kn dl cc C) (k0_pay64 eye kn dl cc C) (k0_pay65 eye kn dl cc C)) (k0_pay67 (k0_pay63 eye kn dl cc C) (k0_pay64 eye kn dl cc C) (k0_pay65 eye kn dl cc C)))
    = vcodes (head3 eye kn dl C cc) (vinv (vfix (vpeak (head3 eye kn dl C cc)))) := rfl

/-- Head 4's new state, from the trip's rows. -/
def head4 (cc : FVec Ideal S6x512 .f32) : FVec Ideal S256x512 .f32 :=
  vstate eye (extractStridedSlice S1x256 ![4, 0] kn slices_S6x256_o4_0_S1x256)
    (extractStridedSlice S1x512 ![4, 0] cc slices_S6x512_o4_0_S1x512)
    (extractStridedSlice S1x512 ![4, 0] dl slices_S6x512_o4_0_S1x512) C

/-- Head 4's stored scales. -/
theorem scale4 : k0_pay79 (k0_pay73 eye kn dl cc C) (k0_pay76 (k0_pay73 eye kn dl cc C) (k0_pay74 eye kn dl cc C) k0_pay75) k0_pay77
    = vscale (vfix (vpeak (head4 eye kn dl C cc))) := rfl

/-- Head 4's stored codes. -/
theorem codes4 : k0_pay81 (k0_pay72 eye kn dl cc C) (k0_pay80 (k0_pay73 eye kn dl cc C) (k0_pay76 (k0_pay73 eye kn dl cc C) (k0_pay74 eye kn dl cc C) k0_pay75) k0_pay77)
    = vcodes (head4 eye kn dl C cc) (vinv (vfix (vpeak (head4 eye kn dl C cc)))) := rfl

/-- Head 5's new state, from the trip's rows. -/
def head5 (cc : FVec Ideal S6x512 .f32) : FVec Ideal S256x512 .f32 :=
  vstate eye (extractStridedSlice S1x256 ![5, 0] kn slices_S6x256_o5_0_S1x256)
    (extractStridedSlice S1x512 ![5, 0] cc slices_S6x512_o5_0_S1x512)
    (extractStridedSlice S1x512 ![5, 0] dl slices_S6x512_o5_0_S1x512) C

/-- Head 5's stored scales. -/
theorem scale5 : k0_pay87 (k0_pay83 eye kn dl cc C) (k0_pay85 (k0_pay83 eye kn dl cc C) (k0_pay84 eye kn dl cc C) 64#32) 2#32
    = vscale (vfix (vpeak (head5 eye kn dl C cc))) := rfl

/-- Head 5's stored codes. -/
theorem codes5 : k0_pay2 (k0_pay82 eye kn dl cc C) (k0_pay88 (k0_pay83 eye kn dl cc C) (k0_pay85 (k0_pay83 eye kn dl cc C) (k0_pay84 eye kn dl cc C) 64#32) 2#32)
    = vcodes (head5 eye kn dl C cc) (vinv (vfix (vpeak (head5 eye kn dl C cc)))) := rfl

end Cert.KernelIdeal.Value

end
-- ==== Proof.Rows.lean ====
/- What one trip computes, index by index: the decode step of `Spec.lean` on the rows the trip loads. -/
module

public import proofs.«01_k».proof.Proof.Heads

@[expose] public section

set_option maxRecDepth 16384

noncomputable section

namespace Cert.KernelIdeal.Value

open Cert.KernelIdeal Cert.KernelIdeal.Gen Cert.Delta Idealize.ShloMosaic

/-- The unit matrix. -/
theorem eye_apply (i j : Fin 256) : k0_pay1 (F := Ideal) (ix2 i j) = if i = j then (1 : EReal) else 0 := by
  pointwise [k0_pay1]
  have h : BitVec.ofNat 32 (i : ℕ) = BitVec.ofNat 32 (j : ℕ) ↔ i = j := by
    rw [← BitVec.toNat_inj, BitVec.toNat_ofNat, BitVec.toNat_ofNat, Nat.mod_eq_of_lt (by omega), Nat.mod_eq_of_lt (by omega),
      Fin.val_inj]
  by_cases hij : i = j
  · rw [if_pos hij, hij]
    simp [IntOp.cmpi, FloatOps.sitofp]
  · rw [if_neg hij]
    have hb : (BitVec.ofNat 32 (i : ℕ) == BitVec.ofNat 32 (j : ℕ)) = false := beq_false_of_ne fun e => hij (h.mp e)
    simp [IntOp.cmpi, FloatOps.sitofp, hb]

/-- A row of the unit matrix in a sum. -/
theorem eye_sum (f : Fin 256 → EReal) (i : Fin 256) : ∑ x, k0_pay1 (F := Ideal) (ix2 i x) * f x = f i := by
  rw [Finset.sum_eq_single i]
  · rw [eye_apply, if_pos rfl, one_mul]
  · intro x _ hx
    rw [eye_apply, if_neg (Ne.symm hx), zero_mul]
  · exact fun h => absurd (Finset.mem_univ i) h

/-- The key rows, of unit length. -/
theorem unit_apply (k : Vec Ideal S1x1x6x256 .bf16) (h : Fin 6) (i : Fin 256) :
    k0_pay4 (F := Ideal) k (ix2 h i) = unit (fun i => k (ix4 0 0 h i)) i := by
  pointwise [k0_pay4]
  rfl

/-- The query rows, of unit length and scaled. -/
theorem query_apply (q : Vec Ideal S1x1x6x256 .bf16) (h : Fin 6) (i : Fin 256) :
    k0_pay3 (F := Ideal) q (ix2 h i) = query (fun i => q (ix4 0 0 h i)) i := by
  pointwise [k0_pay3]
  rfl

/-- The products of query and key. -/
theorem dot_apply (q k : Vec Ideal S1x1x6x256 .bf16) (h : Fin 6) :
    k0_pay5 (F := Ideal) q k (ix2 h 0) = ∑ i, query (fun i => q (ix4 0 0 h i)) i * unit (fun i => k (ix4 0 0 h i)) i := by
  pointwise [k0_pay5]
  simp only [query_apply, unit_apply]

/-- The decays. -/
theorem decay_apply (g : Vec Ideal S1x1x6 .f32) (h : Fin 6) : k0_pay6 (F := Ideal) g (ix2 h 0) = Ideal.exp (g (ix3 0 0 h)) := by
  pointwise [k0_pay6]

/-- The factors of the delta rows. -/
theorem beta_apply (g : Vec Ideal S1x1x6 .f32) (h : Fin 6) : k0_pay7 (F := Ideal) g (ix2 h 0) = g (ix3 0 0 h) := by
  pointwise [k0_pay7]

/-- The old scales. -/
theorem scales_apply (S : Vec Ideal S1x6x512 .f32) (h : Fin 6) (v : Fin 512) :
    k0_pay23 (F := Ideal) S (ix2 h v) = S (ix3 0 h v) := by
  pointwise [k0_pay23]

/-- The decayed scales. -/
theorem decayed_apply (a : FVec Ideal S6x1 .f32) (S : FVec Ideal S6x512 .f32) (h : Fin 6) (v : Fin 512) :
    k0_pay28 (F := Ideal) a S (ix2 h v) = a (ix2 h 0) * S (ix2 h v) := by
  pointwise [k0_pay28]

variable (q k : Vec Ideal S1x1x6x256 .bf16) (vv : Vec Ideal S1x1x6x512 .bf16) (g β : Vec Ideal S1x1x6 .f32)
  (C0 C1 C2 C3 C4 C5 : Vec Ideal S1x1x512x256 .fp8e4m3) (S : Vec Ideal S1x6x512 .f32)

/-- The six heads' codes. -/
def pick : Fin 6 → Vec Ideal S1x1x512x256 .fp8e4m3 := ![C0, C1, C2, C3, C4, C5]

/-- A trip's delta rows. -/
def dl : FVec Ideal S6x512 .f32 :=
  k0_pay24 (k0_pay3 q) (k0_pay4 k) (k0_pay6 g) (k0_pay7 β) (k0_pay10 (k0_pay3 q) (k0_pay8 k) C0)
    (k0_pay13 (k0_pay3 q) (k0_pay4 k) C1) (k0_pay16 (k0_pay3 q) (k0_pay4 k) C2) (k0_pay18 (k0_pay3 q) (k0_pay4 k)) (k0_pay19 C3)
    (constant S16x512 FTy.f32 0#32) C4 C5 S vv

/-- A trip's stored output rows. -/
def out : FVec Ideal S1x1x6x512 .bf16 :=
  k0_pay27
    (k0_pay25 (k0_pay3 q) (k0_pay4 k) (k0_pay6 g) (k0_pay11 (k0_pay3 q) (k0_pay8 k) C0) (k0_pay14 (k0_pay3 q) (k0_pay4 k) C1)
      (k0_pay17 (k0_pay3 q) (k0_pay4 k) C2) (k0_pay18 (k0_pay3 q) (k0_pay4 k)) (k0_pay19 C3) (constant S16x512 FTy.f32 0#32) C4 C5
      S)
    (k0_pay26 (k0_pay3 q) (k0_pay4 k) (k0_pay5 q k) (k0_pay6 g) (k0_pay7 β) (k0_pay10 (k0_pay3 q) (k0_pay8 k) C0)
      (k0_pay13 (k0_pay3 q) (k0_pay4 k) C1) (k0_pay16 (k0_pay3 q) (k0_pay4 k) C2) (k0_pay18 (k0_pay3 q) (k0_pay4 k)) (k0_pay19 C3)
      (constant S16x512 FTy.f32 0#32) C4 C5 S vv)

/-- The delta rows. -/
theorem dl_apply (h : Fin 6) (v : Fin 512) :
    dl q k vv g β C0 C1 C2 C3 C4 C5 S (ix2 h v)
      = delta (fun i => k (ix4 0 0 h i)) (fun v => vv (ix4 0 0 h v)) (g (ix3 0 0 h)) (β (ix3 0 0 h))
          (fun v i => pick C0 C1 C2 C3 C4 C5 h (ix4 0 0 v i)) (fun v => S (ix3 0 h v)) v := by
  unfold dl
  match h with
  | 0 =>
    pointwise [k0_pay24, k0_pay10, k0_pay9, k0_pay8]
    simp only [unit_apply, decay_apply, beta_apply, scales_apply]
    rfl
  | 1 =>
    pointwise [k0_pay24, k0_pay13, k0_pay12]
    simp only [unit_apply, decay_apply, beta_apply, scales_apply]
    rfl
  | 2 =>
    pointwise [k0_pay24, k0_pay16, k0_pay15]
    simp only [unit_apply, decay_apply, beta_apply, scales_apply]
    rfl
  | 3 =>
    pointwise [k0_pay24, k0_pay20, k0_pay18, k0_pay19]
    simp only [unit_apply, decay_apply, beta_apply, scales_apply]
    rfl
  | 4 =>
    pointwise [k0_pay24, k0_pay21]
    simp only [unit_apply, decay_apply, beta_apply, scales_apply]
    rfl
  | 5 =>
    pointwise [k0_pay24, k0_pay22]
    simp only [unit_apply, decay_apply, beta_apply, scales_apply]
    rfl

/-- The first part of the output rows. -/
theorem through_apply (h : Fin 6) (v : Fin 512) :
    k0_pay25 (F := Ideal) (k0_pay3 q) (k0_pay4 k) (k0_pay6 g) (k0_pay11 (k0_pay3 q) (k0_pay8 k) C0)
      (k0_pay14 (k0_pay3 q) (k0_pay4 k) C1) (k0_pay17 (k0_pay3 q) (k0_pay4 k) C2) (k0_pay18 (k0_pay3 q) (k0_pay4 k)) (k0_pay19 C3)
      (constant S16x512 FTy.f32 0#32) C4 C5 S (ix2 h v)
      = Ideal.exp (g (ix3 0 0 h)) * through (query fun i => q (ix4 0 0 h i))
          (fun v i => pick C0 C1 C2 C3 C4 C5 h (ix4 0 0 v i)) (fun v => S (ix3 0 h v)) v := by
  match h with
  | 0 =>
    pointwise [k0_pay25, k0_pay11, k0_pay9, k0_pay8]
    simp only [query_apply, decay_apply, scales_apply]
    rfl
  | 1 =>
    pointwise [k0_pay25, k0_pay14, k0_pay12]
    simp only [query_apply, decay_apply, scales_apply]
    rfl
  | 2 =>
    pointwise [k0_pay25, k0_pay17, k0_pay15]
    simp only [query_apply, decay_apply, scales_apply]
    rfl
  | 3 =>
    pointwise [k0_pay25, k0_pay20, k0_pay18, k0_pay19]
    simp only [query_apply, decay_apply, scales_apply]
    rfl
  | 4 =>
    pointwise [k0_pay25, k0_pay21]
    simp only [query_apply, decay_apply, scales_apply]
    rfl
  | 5 =>
    pointwise [k0_pay25, k0_pay22]
    simp only [query_apply, decay_apply, scales_apply]
    rfl

/-- The output rows. -/
theorem out_apply (h : Fin 6) (v : Fin 512) :
    out q k vv g β C0 C1 C2 C3 C4 C5 S (ix4 0 0 h v)
      = outRow (fun i => q (ix4 0 0 h i)) (fun i => k (ix4 0 0 h i)) (fun v => vv (ix4 0 0 h v)) (g (ix3 0 0 h))
          (β (ix3 0 0 h)) (fun v i => pick C0 C1 C2 C3 C4 C5 h (ix4 0 0 v i)) (fun v => S (ix3 0 h v)) v := by
  unfold out
  pointwise [k0_pay27, k0_pay26]
  rw [through_apply, dot_apply, ← dl, dl_apply]
  rfl

/-- A head's new state from its row of key, decayed scales and delta. -/
theorem vstate_eq (h : Fin 6) (kr : FVec Ideal S1x256 .f32) (cr dr : Row) (C : Vec Ideal S1x1x512x256 .fp8e4m3)
    (hC : C = pick C0 C1 C2 C3 C4 C5 h) (hk : ∀ i, kr (ix2 0 i) = k0_pay4 (F := Ideal) k (ix2 h i))
    (hc : ∀ v, cr (ix2 0 v) = k0_pay28 (F := Ideal) (k0_pay6 g) (k0_pay23 S) (ix2 h v))
    (hd : ∀ v, dr (ix2 0 v) = dl q k vv g β C0 C1 C2 C3 C4 C5 S (ix2 h v)) (i : Fin 256) (v : Fin 512) :
    vstate k0_pay1 kr cr dr C (ix2 i v)
      = state (fun i => k (ix4 0 0 h i)) (fun v => vv (ix4 0 0 h v)) (g (ix3 0 0 h)) (β (ix3 0 0 h))
          (fun v i => pick C0 C1 C2 C3 C4 C5 h (ix4 0 0 v i)) (fun v => S (ix3 0 h v)) v i := by
  rw [vstate_apply, eye_sum (fun x => C (ix4 0 0 v x)), hk, hc, hd, dl_apply, unit_apply, decayed_apply, decay_apply, scales_apply,
    hC, state, mul_left_comm, mul_comm (unit _ _)]

/-- Head 0's new state. -/
theorem head0_apply (i : Fin 256) (v : Fin 512) :
    head0 k0_pay1 (k0_pay4 k) (dl q k vv g β C0 C1 C2 C3 C4 C5 S) C0 (k0_pay28 (k0_pay6 g) (k0_pay23 S)) (ix2 i v)
      = state (fun i => k (ix4 0 0 0 i)) (fun v => vv (ix4 0 0 0 v)) (g (ix3 0 0 0)) (β (ix3 0 0 0))
          (fun v i => pick C0 C1 C2 C3 C4 C5 0 (ix4 0 0 v i)) (fun v => S (ix3 0 0 v)) v i := by
  refine vstate_eq q k vv g β C0 C1 C2 C3 C4 C5 S 0 _ _ _ _ rfl (fun i => ?_) (fun v => ?_) (fun v => ?_) i v
  · pointwise []
  · pointwise []
  · pointwise []

/-- Head 1's new state. -/
theorem head1_apply (i : Fin 256) (v : Fin 512) :
    head1 k0_pay1 (k0_pay4 k) (dl q k vv g β C0 C1 C2 C3 C4 C5 S) C1 (k0_pay28 (k0_pay6 g) (k0_pay23 S)) (ix2 i v)
      = state (fun i => k (ix4 0 0 1 i)) (fun v => vv (ix4 0 0 1 v)) (g (ix3 0 0 1)) (β (ix3 0 0 1))
          (fun v i => pick C0 C1 C2 C3 C4 C5 1 (ix4 0 0 v i)) (fun v => S (ix3 0 1 v)) v i := by
  refine vstate_eq q k vv g β C0 C1 C2 C3 C4 C5 S 1 _ _ _ _ rfl (fun i => ?_) (fun v => ?_) (fun v => ?_) i v
  · pointwise []
  · pointwise []
  · pointwise []

/-- Head 2's new state. -/
theorem head2_apply (i : Fin 256) (v : Fin 512) :
    head2 k0_pay1 (k0_pay4 k) (dl q k vv g β C0 C1 C2 C3 C4 C5 S) C2 (k0_pay28 (k0_pay6 g) (k0_pay23 S)) (ix2 i v)
      = state (fun i => k (ix4 0 0 2 i)) (fun v => vv (ix4 0 0 2 v)) (g (ix3 0 0 2)) (β (ix3 0 0 2))
          (fun v i => pick C0 C1 C2 C3 C4 C5 2 (ix4 0 0 v i)) (fun v => S (ix3 0 2 v)) v i := by
  refine vstate_eq q k vv g β C0 C1 C2 C3 C4 C5 S 2 _ _ _ _ rfl (fun i => ?_) (fun v => ?_) (fun v => ?_) i v
  · pointwise []
  · pointwise []
  · pointwise []

/-- Head 3's new state. -/
theorem head3_apply (i : Fin 256) (v : Fin 512) :
    head3 k0_pay1 (k0_pay4 k) (dl q k vv g β C0 C1 C2 C3 C4 C5 S) C3 (k0_pay28 (k0_pay6 g) (k0_pay23 S)) (ix2 i v)
      = state (fun i => k (ix4 0 0 3 i)) (fun v => vv (ix4 0 0 3 v)) (g (ix3 0 0 3)) (β (ix3 0 0 3))
          (fun v i => pick C0 C1 C2 C3 C4 C5 3 (ix4 0 0 v i)) (fun v => S (ix3 0 3 v)) v i := by
  refine vstate_eq q k vv g β C0 C1 C2 C3 C4 C5 S 3 _ _ _ _ rfl (fun i => ?_) (fun v => ?_) (fun v => ?_) i v
  · pointwise []
  · pointwise []
  · pointwise []

/-- Head 4's new state. -/
theorem head4_apply (i : Fin 256) (v : Fin 512) :
    head4 k0_pay1 (k0_pay4 k) (dl q k vv g β C0 C1 C2 C3 C4 C5 S) C4 (k0_pay28 (k0_pay6 g) (k0_pay23 S)) (ix2 i v)
      = state (fun i => k (ix4 0 0 4 i)) (fun v => vv (ix4 0 0 4 v)) (g (ix3 0 0 4)) (β (ix3 0 0 4))
          (fun v i => pick C0 C1 C2 C3 C4 C5 4 (ix4 0 0 v i)) (fun v => S (ix3 0 4 v)) v i := by
  refine vstate_eq q k vv g β C0 C1 C2 C3 C4 C5 S 4 _ _ _ _ rfl (fun i => ?_) (fun v => ?_) (fun v => ?_) i v
  · pointwise []
  · pointwise []
  · pointwise []

/-- Head 5's new state. -/
theorem head5_apply (i : Fin 256) (v : Fin 512) :
    head5 k0_pay1 (k0_pay4 k) (dl q k vv g β C0 C1 C2 C3 C4 C5 S) C5 (k0_pay28 (k0_pay6 g) (k0_pay23 S)) (ix2 i v)
      = state (fun i => k (ix4 0 0 5 i)) (fun v => vv (ix4 0 0 5 v)) (g (ix3 0 0 5)) (β (ix3 0 0 5))
          (fun v i => pick C0 C1 C2 C3 C4 C5 5 (ix4 0 0 v i)) (fun v => S (ix3 0 5 v)) v i := by
  refine vstate_eq q k vv g β C0 C1 C2 C3 C4 C5 S 5 _ _ _ _ rfl (fun i => ?_) (fun v => ?_) (fun v => ?_) i v
  · pointwise []
  · pointwise []
  · pointwise []

end Cert.KernelIdeal.Value

end
-- ==== Proof.Trip.lean ====
/- What one trip of the kernel's loop stores, as entries of the block its grid point holds. -/
module

public import proofs.«01_k».proof.Proof.Rows
public import proofs.«01_k».proof.Proof.Gen.KernelIdeal.Loops
public import Idealize.ShloMosaic.Lib.Pipeline.ValueKit
public import Idealize.ShloMosaic.Lib.WholeRead
public import Idealize.ShloMosaic.Lib.WordArith.Masks

@[expose] public section

set_option maxRecDepth 16384

noncomputable section

namespace Cert.KernelIdeal.Value

open Cert.KernelIdeal Cert.KernelIdeal.Gen Cert.Delta Idealize.ShloMosaic Idealize.ShloMosaic.Tactic

/-! ## The offsets of a trip's loads and stores -/

/-- The loop's counter. -/
theorem counter (k : Fin k0_t1_loop.trips) : (Scf.iv 0#32 1#32 (k : ℕ)).toNat = k :=
  WordArith.toNat_iv_zero_one _ (by have := k.isLt; have := k0_t1_abs.2.1; omega)

/-- The offsets `k0_off1` at trip `k`. -/
theorem off1 (k : Fin k0_t1_loop.trips) : k0_off1 k = ![(k : ℕ), 0, 0, 0] := by
  show ![(Scf.iv 0#32 1#32 (k : ℕ)).toNat, 0, 0, 0] = _
  rw [counter]

/-- The offsets `k0_off2` at trip `k`. -/
theorem off2 (k : Fin k0_t1_loop.trips) : k0_off2 k = ![(k : ℕ), 0, 0] := by
  show ![(Scf.iv 0#32 1#32 (k : ℕ)).toNat, 0, 0] = _
  rw [counter]

/-- The offsets `k0_off3` at trip `k`. -/
theorem off3 (k : Fin k0_t1_loop.trips) : k0_off3 k = ![(k : ℕ), 0, 0, 0] := by
  show ![(Scf.iv 0#32 1#32 (k : ℕ)).toNat, 0, 0, 0] = _
  rw [counter]

/-- The offsets `k0_off4` at trip `k`. -/
theorem off4 (k : Fin k0_t1_loop.trips) : k0_off4 k = ![(k : ℕ), 1, 0, 0] := by
  show ![(Scf.iv 0#32 1#32 (k : ℕ)).toNat, 1, 0, 0] = _
  rw [counter]

/-- The offsets `k0_off5` at trip `k`. -/
theorem off5 (k : Fin k0_t1_loop.trips) : k0_off5 k = ![(k : ℕ), 2, 0, 0] := by
  show ![(Scf.iv 0#32 1#32 (k : ℕ)).toNat, 2, 0, 0] = _
  rw [counter]

/-- The offsets `k0_off6` at trip `k`. -/
theorem off6 (k : Fin k0_t1_loop.trips) : k0_off6 k = ![(k : ℕ), 3, 0, 0] := by
  show ![(Scf.iv 0#32 1#32 (k : ℕ)).toNat, 3, 0, 0] = _
  rw [counter]

/-- The offsets `k0_off7` at trip `k`. -/
theorem off7 (k : Fin k0_t1_loop.trips) : k0_off7 k = ![(k : ℕ), 4, 0, 0] := by
  show ![(Scf.iv 0#32 1#32 (k : ℕ)).toNat, 4, 0, 0] = _
  rw [counter]

/-- The offsets `k0_off8` at trip `k`. -/
theorem off8 (k : Fin k0_t1_loop.trips) : k0_off8 k = ![(k : ℕ), 5, 0, 0] := by
  show ![(Scf.iv 0#32 1#32 (k : ℕ)).toNat, 5, 0, 0] = _
  rw [counter]

/-- The offsets `k0_off9` at trip `k`. -/
theorem off9 (k : Fin k0_t1_loop.trips) : k0_off9 k = ![(k : ℕ), 0, 0] := by
  show ![(Scf.iv 0#32 1#32 (k : ℕ)).toNat, 0, 0] = _
  rw [counter]

/-- The offsets `k0_off10` at trip `k`. -/
theorem off10 (k : Fin k0_t1_loop.trips) : k0_off10 k = ![(k : ℕ), 0, 0, 0] := by
  show ![(Scf.iv 0#32 1#32 (k : ℕ)).toNat, 0, 0, 0] = _
  rw [counter]

/-- The offsets `k0_off11` at trip `k`. -/
theorem off11 (k : Fin k0_t1_loop.trips) : k0_off11 k = ![(k : ℕ), 0, 0] := by
  show ![(Scf.iv 0#32 1#32 (k : ℕ)).toNat, 0, 0] = _
  rw [counter]

/-- The offsets `k0_off12` at trip `k`. -/
theorem off12 (k : Fin k0_t1_loop.trips) : k0_off12 k = ![(k : ℕ), 1, 0] := by
  show ![(Scf.iv 0#32 1#32 (k : ℕ)).toNat, 1, 0] = _
  rw [counter]

/-- The offsets `k0_off13` at trip `k`. -/
theorem off13 (k : Fin k0_t1_loop.trips) : k0_off13 k = ![(k : ℕ), 2, 0] := by
  show ![(Scf.iv 0#32 1#32 (k : ℕ)).toNat, 2, 0] = _
  rw [counter]

/-- The offsets `k0_off14` at trip `k`. -/
theorem off14 (k : Fin k0_t1_loop.trips) : k0_off14 k = ![(k : ℕ), 3, 0] := by
  show ![(Scf.iv 0#32 1#32 (k : ℕ)).toNat, 3, 0] = _
  rw [counter]

/-- The offsets `k0_off15` at trip `k`. -/
theorem off15 (k : Fin k0_t1_loop.trips) : k0_off15 k = ![(k : ℕ), 4, 0] := by
  show ![(Scf.iv 0#32 1#32 (k : ℕ)).toNat, 4, 0] = _
  rw [counter]

/-- The offsets `k0_off16` at trip `k`. -/
theorem off16 (k : Fin k0_t1_loop.trips) : k0_off16 k = ![(k : ℕ), 5, 0] := by
  show ![(Scf.iv 0#32 1#32 (k : ℕ)).toNat, 5, 0] = _
  rw [counter]

/-- The trip's batch entry within its block. -/
def entry (k : Fin k0_t1_loop.trips) : Fin 4 := ⟨k, Nat.lt_of_lt_of_le k.isLt k0_t1_abs.2.1⟩

/-- A load through a whole memref at an index. -/
theorem load_apply {s : Shape} {e : EltTy} {m : Memref sig .tc .vmem s e} (h : m.IsWhole) (X : s.Idx → Elt Ideal e)
    (off size : Fin s.rank → ℕ) (inb : ∀ a, off a + size a ≤ s.size a) (x : (Rect.unit off size inb).shape.Idx) (j : s.Idx)
    (o : Fin s.rank → ℕ) (ho : off = o) (hj : ∀ a, (j a : ℕ) = o a + x a) :
    View.readAt (Elt Ideal) m.view (Rect.unit off size inb).toLoadRect (h.unread X) x = X j := by
  subst ho
  exact (h.readAt_unread X _ x).trans
    (congrArg X (funext fun a => Fin.ext ((Rect.idx_unit_val off size inb x a).trans (hj a).symm)))

/-- Where a store's rectangle puts an index. -/
theorem emb_eq {s : Shape} (off size : Fin s.rank → ℕ) (inb : ∀ a, off a + size a ≤ s.size a)
    (x : (Rect.unit off size inb).shape.Idx) (j : s.Idx)
    (o : Fin s.rank → ℕ) (ho : off = o) (hj : ∀ a, (j a : ℕ) = o a + x a) :
    (Rect.unit off size inb).emb x = j := by
  subst ho
  exact funext fun a => Fin.ext ((Rect.idx_unit_val off size inb x a).trans (hj a).symm)

/-! ## The three result blocks of a grid point -/

variable (x0 x1 : Vec Ideal S4x1x6x256 .bf16) (x2 : Vec Ideal S4x1x6x512 .bf16) (x3 x4 : Vec Ideal S4x1x6 .f32)
  (x5 : Vec Ideal S4x6x512x256 .fp8e4m3) (x6 : Vec Ideal S4x6x512 .f32)

/-- One output row of a block. -/
def row7 (b : Fin 4) (h : Fin 6) : Fin 512 → EReal :=
  outRow (fun i => x0 (ix4 b 0 h i)) (fun i => x1 (ix4 b 0 h i)) (fun v => x2 (ix4 b 0 h v)) (x3 (ix3 b 0 h)) (x4 (ix3 b 0 h))
    (fun v i => x5 (ix4 b h v i)) (fun v => x6 (ix3 b h v))

/-- One new state row of a block. -/
def row8 (b : Fin 4) (h : Fin 6) (v : Fin 512) : Fin 256 → EReal :=
  state (fun i => x1 (ix4 b 0 h i)) (fun v => x2 (ix4 b 0 h v)) (x3 (ix3 b 0 h)) (x4 (ix3 b 0 h))
    (fun v i => x5 (ix4 b h v i)) (fun v => x6 (ix3 b h v)) v

/-- The output block. -/
def blk7 (y : S4x1x6x512.Idx) : Elt Ideal .bf16 := row7 x0 x1 x2 x3 x4 x5 x6 (y 0) (y 2) (y 3)

/-- The block of codes. -/
def blk8 (y : S4x6x512x256.Idx) : Elt Ideal .fp8e4m3 := codeOf (row8 x1 x2 x3 x4 x5 x6 (y 0) (y 1) (y 2)) (y 3)

/-- The block of scales. -/
def blk9 (y : S4x6x512.Idx) : Elt Ideal .f32 := scaleOf (row8 x1 x2 x3 x4 x5 x6 (y 0) (y 1) (y 2))

/-- What a trip's loads hold: entry `b` of each block. -/
structure Loads (b : Fin 4) (q k : Vec Ideal S1x1x6x256 .bf16) (vv : Vec Ideal S1x1x6x512 .bf16) (g β : Vec Ideal S1x1x6 .f32)
    (C0 C1 C2 C3 C4 C5 : Vec Ideal S1x1x512x256 .fp8e4m3) (S : Vec Ideal S1x6x512 .f32) : Prop where
  q : ∀ h i, q (ix4 0 0 h i) = x0 (ix4 b 0 h i)
  k : ∀ h i, k (ix4 0 0 h i) = x1 (ix4 b 0 h i)
  vv : ∀ h v, vv (ix4 0 0 h v) = x2 (ix4 b 0 h v)
  g : ∀ h, g (ix3 0 0 h) = x3 (ix3 b 0 h)
  β : ∀ h, β (ix3 0 0 h) = x4 (ix3 b 0 h)
  C : ∀ h v i, pick C0 C1 C2 C3 C4 C5 h (ix4 0 0 v i) = x5 (ix4 b h v i)
  S : ∀ h v, S (ix3 0 h v) = x6 (ix3 b h v)

section

variable {x0 x1 x2 x3 x4 x5 x6} {b : Fin 4} {q k : Vec Ideal S1x1x6x256 .bf16} {vv : Vec Ideal S1x1x6x512 .bf16}
  {g β : Vec Ideal S1x1x6 .f32} {C0 C1 C2 C3 C4 C5 : Vec Ideal S1x1x512x256 .fp8e4m3} {S : Vec Ideal S1x6x512 .f32}
  (L : Loads x0 x1 x2 x3 x4 x5 x6 b q k vv g β C0 C1 C2 C3 C4 C5 S)

include L

/-- The stored output rows are the block's. -/
theorem Loads.blkOut (h : Fin 6) (v : Fin 512) :
    out q k vv g β C0 C1 C2 C3 C4 C5 S (ix4 0 0 h v) = blk7 x0 x1 x2 x3 x4 x5 x6 (ix4 b 0 h v) := by
  rw [out_apply]
  simp only [L.q, L.k, L.vv, L.g, L.β, L.C, L.S]
  rfl

/-- The new state's rows are the block's. -/
theorem Loads.stateRow (h : Fin 6) (v : Fin 512) (i : Fin 256) :
    state (fun i => k (ix4 0 0 h i)) (fun v => vv (ix4 0 0 h v)) (g (ix3 0 0 h)) (β (ix3 0 0 h))
      (fun v i => pick C0 C1 C2 C3 C4 C5 h (ix4 0 0 v i)) (fun v => S (ix3 0 h v)) v i = row8 x1 x2 x3 x4 x5 x6 b h v i := by
  simp only [L.k, L.vv, L.g, L.β, L.C, L.S]
  rfl

/-- Head 0's new state, column by column, is the block's rows. -/
theorem Loads.headRow0 (v : Fin 512) :
    (fun i => head0 k0_pay1 (k0_pay4 k) (dl q k vv g β C0 C1 C2 C3 C4 C5 S) C0 (k0_pay28 (k0_pay6 g) (k0_pay23 S)) (ix2 i v)) = row8 x1 x2 x3 x4 x5 x6 b 0 v :=
  funext fun i => (head0_apply q k vv g β C0 C1 C2 C3 C4 C5 S i v).trans (L.stateRow 0 v i)

/-- Head 0's stored codes are the block's. -/
theorem Loads.codes0 (v : Fin 512) (i : Fin 256) :
    vcodes (head0 k0_pay1 (k0_pay4 k) (dl q k vv g β C0 C1 C2 C3 C4 C5 S) C0 (k0_pay28 (k0_pay6 g) (k0_pay23 S)))
      (vinv (vfix (vpeak (head0 k0_pay1 (k0_pay4 k) (dl q k vv g β C0 C1 C2 C3 C4 C5 S) C0 (k0_pay28 (k0_pay6 g) (k0_pay23 S)))))) (ix4 0 0 v i)
      = blk8 x1 x2 x3 x4 x5 x6 (ix4 b 0 v i) := by
  rw [qcodes_apply, L.headRow0]
  rfl

/-- Head 0's stored scales are the block's. -/
theorem Loads.scale0 (v : Fin 512) :
    vscale (vfix (vpeak (head0 k0_pay1 (k0_pay4 k) (dl q k vv g β C0 C1 C2 C3 C4 C5 S) C0 (k0_pay28 (k0_pay6 g) (k0_pay23 S))))) (ix3 0 0 v)
      = blk9 x1 x2 x3 x4 x5 x6 (ix3 b 0 v) := by
  rw [qscale_apply, L.headRow0]
  rfl

/-- Head 1's new state, column by column, is the block's rows. -/
theorem Loads.headRow1 (v : Fin 512) :
    (fun i => head1 k0_pay1 (k0_pay4 k) (dl q k vv g β C0 C1 C2 C3 C4 C5 S) C1 (k0_pay28 (k0_pay6 g) (k0_pay23 S)) (ix2 i v)) = row8 x1 x2 x3 x4 x5 x6 b 1 v :=
  funext fun i => (head1_apply q k vv g β C0 C1 C2 C3 C4 C5 S i v).trans (L.stateRow 1 v i)

/-- Head 1's stored codes are the block's. -/
theorem Loads.codes1 (v : Fin 512) (i : Fin 256) :
    vcodes (head1 k0_pay1 (k0_pay4 k) (dl q k vv g β C0 C1 C2 C3 C4 C5 S) C1 (k0_pay28 (k0_pay6 g) (k0_pay23 S)))
      (vinv (vfix (vpeak (head1 k0_pay1 (k0_pay4 k) (dl q k vv g β C0 C1 C2 C3 C4 C5 S) C1 (k0_pay28 (k0_pay6 g) (k0_pay23 S)))))) (ix4 0 0 v i)
      = blk8 x1 x2 x3 x4 x5 x6 (ix4 b 1 v i) := by
  rw [qcodes_apply, L.headRow1]
  rfl

/-- Head 1's stored scales are the block's. -/
theorem Loads.scale1 (v : Fin 512) :
    vscale (vfix (vpeak (head1 k0_pay1 (k0_pay4 k) (dl q k vv g β C0 C1 C2 C3 C4 C5 S) C1 (k0_pay28 (k0_pay6 g) (k0_pay23 S))))) (ix3 0 0 v)
      = blk9 x1 x2 x3 x4 x5 x6 (ix3 b 1 v) := by
  rw [qscale_apply, L.headRow1]
  rfl

/-- Head 2's new state, column by column, is the block's rows. -/
theorem Loads.headRow2 (v : Fin 512) :
    (fun i => head2 k0_pay1 (k0_pay4 k) (dl q k vv g β C0 C1 C2 C3 C4 C5 S) C2 (k0_pay28 (k0_pay6 g) (k0_pay23 S)) (ix2 i v)) = row8 x1 x2 x3 x4 x5 x6 b 2 v :=
  funext fun i => (head2_apply q k vv g β C0 C1 C2 C3 C4 C5 S i v).trans (L.stateRow 2 v i)

/-- Head 2's stored codes are the block's. -/
theorem Loads.codes2 (v : Fin 512) (i : Fin 256) :
    vcodes (head2 k0_pay1 (k0_pay4 k) (dl q k vv g β C0 C1 C2 C3 C4 C5 S) C2 (k0_pay28 (k0_pay6 g) (k0_pay23 S)))
      (vinv (vfix (vpeak (head2 k0_pay1 (k0_pay4 k) (dl q k vv g β C0 C1 C2 C3 C4 C5 S) C2 (k0_pay28 (k0_pay6 g) (k0_pay23 S)))))) (ix4 0 0 v i)
      = blk8 x1 x2 x3 x4 x5 x6 (ix4 b 2 v i) := by
  rw [qcodes_apply, L.headRow2]
  rfl

/-- Head 2's stored scales are the block's. -/
theorem Loads.scale2 (v : Fin 512) :
    vscale (vfix (vpeak (head2 k0_pay1 (k0_pay4 k) (dl q k vv g β C0 C1 C2 C3 C4 C5 S) C2 (k0_pay28 (k0_pay6 g) (k0_pay23 S))))) (ix3 0 0 v)
      = blk9 x1 x2 x3 x4 x5 x6 (ix3 b 2 v) := by
  rw [qscale_apply, L.headRow2]
  rfl

/-- Head 3's new state, column by column, is the block's rows. -/
theorem Loads.headRow3 (v : Fin 512) :
    (fun i => head3 k0_pay1 (k0_pay4 k) (dl q k vv g β C0 C1 C2 C3 C4 C5 S) C3 (k0_pay28 (k0_pay6 g) (k0_pay23 S)) (ix2 i v)) = row8 x1 x2 x3 x4 x5 x6 b 3 v :=
  funext fun i => (head3_apply q k vv g β C0 C1 C2 C3 C4 C5 S i v).trans (L.stateRow 3 v i)

/-- Head 3's stored codes are the block's. -/
theorem Loads.codes3 (v : Fin 512) (i : Fin 256) :
    vcodes (head3 k0_pay1 (k0_pay4 k) (dl q k vv g β C0 C1 C2 C3 C4 C5 S) C3 (k0_pay28 (k0_pay6 g) (k0_pay23 S)))
      (vinv (vfix (vpeak (head3 k0_pay1 (k0_pay4 k) (dl q k vv g β C0 C1 C2 C3 C4 C5 S) C3 (k0_pay28 (k0_pay6 g) (k0_pay23 S)))))) (ix4 0 0 v i)
      = blk8 x1 x2 x3 x4 x5 x6 (ix4 b 3 v i) := by
  rw [qcodes_apply, L.headRow3]
  rfl

/-- Head 3's stored scales are the block's. -/
theorem Loads.scale3 (v : Fin 512) :
    vscale (vfix (vpeak (head3 k0_pay1 (k0_pay4 k) (dl q k vv g β C0 C1 C2 C3 C4 C5 S) C3 (k0_pay28 (k0_pay6 g) (k0_pay23 S))))) (ix3 0 0 v)
      = blk9 x1 x2 x3 x4 x5 x6 (ix3 b 3 v) := by
  rw [qscale_apply, L.headRow3]
  rfl

/-- Head 4's new state, column by column, is the block's rows. -/
theorem Loads.headRow4 (v : Fin 512) :
    (fun i => head4 k0_pay1 (k0_pay4 k) (dl q k vv g β C0 C1 C2 C3 C4 C5 S) C4 (k0_pay28 (k0_pay6 g) (k0_pay23 S)) (ix2 i v)) = row8 x1 x2 x3 x4 x5 x6 b 4 v :=
  funext fun i => (head4_apply q k vv g β C0 C1 C2 C3 C4 C5 S i v).trans (L.stateRow 4 v i)

/-- Head 4's stored codes are the block's. -/
theorem Loads.codes4 (v : Fin 512) (i : Fin 256) :
    vcodes (head4 k0_pay1 (k0_pay4 k) (dl q k vv g β C0 C1 C2 C3 C4 C5 S) C4 (k0_pay28 (k0_pay6 g) (k0_pay23 S)))
      (vinv (vfix (vpeak (head4 k0_pay1 (k0_pay4 k) (dl q k vv g β C0 C1 C2 C3 C4 C5 S) C4 (k0_pay28 (k0_pay6 g) (k0_pay23 S)))))) (ix4 0 0 v i)
      = blk8 x1 x2 x3 x4 x5 x6 (ix4 b 4 v i) := by
  rw [qcodes_apply, L.headRow4]
  rfl

/-- Head 4's stored scales are the block's. -/
theorem Loads.scale4 (v : Fin 512) :
    vscale (vfix (vpeak (head4 k0_pay1 (k0_pay4 k) (dl q k vv g β C0 C1 C2 C3 C4 C5 S) C4 (k0_pay28 (k0_pay6 g) (k0_pay23 S))))) (ix3 0 0 v)
      = blk9 x1 x2 x3 x4 x5 x6 (ix3 b 4 v) := by
  rw [qscale_apply, L.headRow4]
  rfl

/-- Head 5's new state, column by column, is the block's rows. -/
theorem Loads.headRow5 (v : Fin 512) :
    (fun i => head5 k0_pay1 (k0_pay4 k) (dl q k vv g β C0 C1 C2 C3 C4 C5 S) C5 (k0_pay28 (k0_pay6 g) (k0_pay23 S)) (ix2 i v)) = row8 x1 x2 x3 x4 x5 x6 b 5 v :=
  funext fun i => (head5_apply q k vv g β C0 C1 C2 C3 C4 C5 S i v).trans (L.stateRow 5 v i)

/-- Head 5's stored codes are the block's. -/
theorem Loads.codes5 (v : Fin 512) (i : Fin 256) :
    vcodes (head5 k0_pay1 (k0_pay4 k) (dl q k vv g β C0 C1 C2 C3 C4 C5 S) C5 (k0_pay28 (k0_pay6 g) (k0_pay23 S)))
      (vinv (vfix (vpeak (head5 k0_pay1 (k0_pay4 k) (dl q k vv g β C0 C1 C2 C3 C4 C5 S) C5 (k0_pay28 (k0_pay6 g) (k0_pay23 S)))))) (ix4 0 0 v i)
      = blk8 x1 x2 x3 x4 x5 x6 (ix4 b 5 v i) := by
  rw [qcodes_apply, L.headRow5]
  rfl

/-- Head 5's stored scales are the block's. -/
theorem Loads.scale5 (v : Fin 512) :
    vscale (vfix (vpeak (head5 k0_pay1 (k0_pay4 k) (dl q k vv g β C0 C1 C2 C3 C4 C5 S) C5 (k0_pay28 (k0_pay6 g) (k0_pay23 S))))) (ix3 0 0 v)
      = blk9 x1 x2 x3 x4 x5 x6 (ix3 b 5 v) := by
  rw [qscale_apply, L.headRow5]
  rfl

end

/-! ## The trip -/

/-- A load of the trip. -/
def ldq (m : Memref sig .tc .vmem S4x1x6x256 .bf16) (h : m.IsWhole) (X : Vec Ideal S4x1x6x256 .bf16) (k : Fin k0_t1_loop.trips) :
    Vec Ideal S1x1x6x256 .bf16 :=
  View.readAt (Elt Ideal) m.view (Rect.unit (s := S4x1x6x256) (k0_off1 k) S1x1x6x256.size (k0_off1_inb k)).toLoadRect (h.unread X)

/-- A load of the trip. -/
def ldv (m : Memref sig .tc .vmem S4x1x6x512 .bf16) (h : m.IsWhole) (X : Vec Ideal S4x1x6x512 .bf16) (k : Fin k0_t1_loop.trips) :
    Vec Ideal S1x1x6x512 .bf16 :=
  View.readAt (Elt Ideal) m.view (Rect.unit (s := S4x1x6x512) (k0_off10 k) S1x1x6x512.size (k0_off10_inb k)).toLoadRect (h.unread X)

/-- A load of the trip. -/
def ldg (m : Memref sig .tc .vmem S4x1x6 .f32) (h : m.IsWhole) (X : Vec Ideal S4x1x6 .f32) (k : Fin k0_t1_loop.trips) :
    Vec Ideal S1x1x6 .f32 :=
  View.readAt (Elt Ideal) m.view (Rect.unit (s := S4x1x6) (k0_off2 k) S1x1x6.size (k0_off2_inb k)).toLoadRect (h.unread X)

/-- A load of the trip. -/
def ldC0 (m : Memref sig .tc .vmem S4x6x512x256 .fp8e4m3) (h : m.IsWhole) (X : Vec Ideal S4x6x512x256 .fp8e4m3) (k : Fin k0_t1_loop.trips) :
    Vec Ideal S1x1x512x256 .fp8e4m3 :=
  View.readAt (Elt Ideal) m.view (Rect.unit (s := S4x6x512x256) (k0_off3 k) S1x1x512x256.size (k0_off3_inb k)).toLoadRect (h.unread X)

/-- A load of the trip. -/
def ldC1 (m : Memref sig .tc .vmem S4x6x512x256 .fp8e4m3) (h : m.IsWhole) (X : Vec Ideal S4x6x512x256 .fp8e4m3) (k : Fin k0_t1_loop.trips) :
    Vec Ideal S1x1x512x256 .fp8e4m3 :=
  View.readAt (Elt Ideal) m.view (Rect.unit (s := S4x6x512x256) (k0_off4 k) S1x1x512x256.size (k0_off4_inb k)).toLoadRect (h.unread X)

/-- A load of the trip. -/
def ldC2 (m : Memref sig .tc .vmem S4x6x512x256 .fp8e4m3) (h : m.IsWhole) (X : Vec Ideal S4x6x512x256 .fp8e4m3) (k : Fin k0_t1_loop.trips) :
    Vec Ideal S1x1x512x256 .fp8e4m3 :=
  View.readAt (Elt Ideal) m.view (Rect.unit (s := S4x6x512x256) (k0_off5 k) S1x1x512x256.size (k0_off5_inb k)).toLoadRect (h.unread X)

/-- A load of the trip. -/
def ldC3 (m : Memref sig .tc .vmem S4x6x512x256 .fp8e4m3) (h : m.IsWhole) (X : Vec Ideal S4x6x512x256 .fp8e4m3) (k : Fin k0_t1_loop.trips) :
    Vec Ideal S1x1x512x256 .fp8e4m3 :=
  View.readAt (Elt Ideal) m.view (Rect.unit (s := S4x6x512x256) (k0_off6 k) S1x1x512x256.size (k0_off6_inb k)).toLoadRect (h.unread X)

/-- A load of the trip. -/
def ldC4 (m : Memref sig .tc .vmem S4x6x512x256 .fp8e4m3) (h : m.IsWhole) (X : Vec Ideal S4x6x512x256 .fp8e4m3) (k : Fin k0_t1_loop.trips) :
    Vec Ideal S1x1x512x256 .fp8e4m3 :=
  View.readAt (Elt Ideal) m.view (Rect.unit (s := S4x6x512x256) (k0_off7 k) S1x1x512x256.size (k0_off7_inb k)).toLoadRect (h.unread X)

/-- A load of the trip. -/
def ldC5 (m : Memref sig .tc .vmem S4x6x512x256 .fp8e4m3) (h : m.IsWhole) (X : Vec Ideal S4x6x512x256 .fp8e4m3) (k : Fin k0_t1_loop.trips) :
    Vec Ideal S1x1x512x256 .fp8e4m3 :=
  View.readAt (Elt Ideal) m.view (Rect.unit (s := S4x6x512x256) (k0_off8 k) S1x1x512x256.size (k0_off8_inb k)).toLoadRect (h.unread X)

/-- A load of the trip. -/
def ldS (m : Memref sig .tc .vmem S4x6x512 .f32) (h : m.IsWhole) (X : Vec Ideal S4x6x512 .f32) (k : Fin k0_t1_loop.trips) :
    Vec Ideal S1x6x512 .f32 :=
  View.readAt (Elt Ideal) m.view (Rect.unit (s := S4x6x512) (k0_off9 k) S1x6x512.size (k0_off9_inb k)).toLoadRect (h.unread X)

variable (𝒱 : Variants) (c : Dev nD) (bd : Option 𝒱.V) (i : grid0.Coords) (arg1 : Memref sig .tc .vmem S4x1x6x256 .bf16) (harg1 : arg1.IsWhole) (arg2 : Memref sig .tc .vmem S4x1x6x256 .bf16) (harg2 : arg2.IsWhole) (arg3 : Memref sig .tc .vmem S4x1x6x512 .bf16) (harg3 : arg3.IsWhole) (arg4 : Memref sig .tc .vmem S4x1x6 .f32) (harg4 : arg4.IsWhole) (arg5 : Memref sig .tc .vmem S4x1x6 .f32) (harg5 : arg5.IsWhole) (arg6 : Memref sig .tc .vmem S4x6x512x256 .fp8e4m3) (harg6 : arg6.IsWhole) (arg7 : Memref sig .tc .vmem S4x6x512 .f32) (harg7 : arg7.IsWhole) (arg8 : Memref sig .tc .vmem S4x1x6x512 .bf16) (harg8 : arg8.IsWhole) (arg9 : Memref sig .tc .vmem S4x6x512x256 .fp8e4m3) (harg9 : arg9.IsWhole) (arg10 : Memref sig .tc .vmem S4x6x512 .f32) (harg10 : arg10.IsWhole) (k : Fin k0_t1_loop.trips)

omit 𝒱 c bd i in
/-- The trip's loads hold its entry of each block. -/
theorem loads : Loads x0 x1 x2 x3 x4 x5 x6 (entry k) (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k) where
  q h i := load_apply harg1 x0 _ _ _ _ _ _ (off1 k) fun a => by fin_cases a <;> simp [entry]
  k h i := load_apply harg2 x1 _ _ _ _ _ _ (off1 k) fun a => by fin_cases a <;> simp [entry]
  vv h v := load_apply harg3 x2 _ _ _ _ _ _ (off10 k) fun a => by fin_cases a <;> simp [entry]
  g h := load_apply harg4 x3 _ _ _ _ _ _ (off2 k) fun a => by fin_cases a <;> simp [entry]
  β h := load_apply harg5 x4 _ _ _ _ _ _ (off2 k) fun a => by fin_cases a <;> simp [entry]
  C h v i := by
    match h with
    | 0 => exact load_apply harg6 x5 _ _ _ _ _ _ (off3 k) fun a => by fin_cases a <;> simp [entry]
    | 1 => exact load_apply harg6 x5 _ _ _ _ _ _ (off4 k) fun a => by fin_cases a <;> simp [entry]
    | 2 => exact load_apply harg6 x5 _ _ _ _ _ _ (off5 k) fun a => by fin_cases a <;> simp [entry]
    | 3 => exact load_apply harg6 x5 _ _ _ _ _ _ (off6 k) fun a => by fin_cases a <;> simp [entry]
    | 4 => exact load_apply harg6 x5 _ _ _ _ _ _ (off7 k) fun a => by fin_cases a <;> simp [entry]
    | 5 => exact load_apply harg6 x5 _ _ _ _ _ _ (off8 k) fun a => by fin_cases a <;> simp [entry]
  S h v := load_apply harg7 x6 _ _ _ _ _ _ (off9 k) fun a => by fin_cases a <;> simp [entry]

/-- The trip's stores of output rows. -/
theorem trip7 : (trip_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) k).1
    = [⟨Rect.unit (s := S4x1x6x512) (k0_off10 k) S1x1x6x512.size (k0_off10_inb k), out (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)⟩] := by
  unfold trip_k0_t1
  dsimp only
  sl_unfold_run_names
  rfl

/-- The trip's stores of codes. -/
theorem trip8 : (trip_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) k).2.1
    = [⟨Rect.unit (s := S4x6x512x256) (k0_off8 k) S1x1x512x256.size (k0_off8_inb k),
        vcodes (head5 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC5 arg6 harg6 x5 k) (k0_pay28 (k0_pay6 (ldg arg4 harg4 x3 k)) (k0_pay23 (ldS arg7 harg7 x6 k)))) (vinv (vfix (vpeak (head5 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC5 arg6 harg6 x5 k) (k0_pay28 (k0_pay6 (ldg arg4 harg4 x3 k)) (k0_pay23 (ldS arg7 harg7 x6 k)))))))⟩,
      ⟨Rect.unit (s := S4x6x512x256) (k0_off7 k) S1x1x512x256.size (k0_off7_inb k),
        vcodes (head4 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC4 arg6 harg6 x5 k) (k0_pay28 (k0_pay6 (ldg arg4 harg4 x3 k)) (k0_pay23 (ldS arg7 harg7 x6 k)))) (vinv (vfix (vpeak (head4 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC4 arg6 harg6 x5 k) (k0_pay28 (k0_pay6 (ldg arg4 harg4 x3 k)) (k0_pay23 (ldS arg7 harg7 x6 k)))))))⟩,
      ⟨Rect.unit (s := S4x6x512x256) (k0_off6 k) S1x1x512x256.size (k0_off6_inb k),
        vcodes (head3 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC3 arg6 harg6 x5 k) (k0_pay28 (k0_pay6 (ldg arg4 harg4 x3 k)) (k0_pay23 (ldS arg7 harg7 x6 k)))) (vinv (vfix (vpeak (head3 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC3 arg6 harg6 x5 k) (k0_pay28 (k0_pay6 (ldg arg4 harg4 x3 k)) (k0_pay23 (ldS arg7 harg7 x6 k)))))))⟩,
      ⟨Rect.unit (s := S4x6x512x256) (k0_off5 k) S1x1x512x256.size (k0_off5_inb k),
        vcodes (head2 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC2 arg6 harg6 x5 k) (k0_pay28 (k0_pay6 (ldg arg4 harg4 x3 k)) (k0_pay23 (ldS arg7 harg7 x6 k)))) (vinv (vfix (vpeak (head2 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC2 arg6 harg6 x5 k) (k0_pay28 (k0_pay6 (ldg arg4 harg4 x3 k)) (k0_pay23 (ldS arg7 harg7 x6 k)))))))⟩,
      ⟨Rect.unit (s := S4x6x512x256) (k0_off4 k) S1x1x512x256.size (k0_off4_inb k),
        vcodes (head1 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC1 arg6 harg6 x5 k) (k0_pay28 (k0_pay6 (ldg arg4 harg4 x3 k)) (k0_pay23 (ldS arg7 harg7 x6 k)))) (vinv (vfix (vpeak (head1 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC1 arg6 harg6 x5 k) (k0_pay28 (k0_pay6 (ldg arg4 harg4 x3 k)) (k0_pay23 (ldS arg7 harg7 x6 k)))))))⟩,
      ⟨Rect.unit (s := S4x6x512x256) (k0_off3 k) S1x1x512x256.size (k0_off3_inb k),
        vcodes (head0 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC0 arg6 harg6 x5 k) (k0_pay28 (k0_pay6 (ldg arg4 harg4 x3 k)) (k0_pay23 (ldS arg7 harg7 x6 k)))) (vinv (vfix (vpeak (head0 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC0 arg6 harg6 x5 k) (k0_pay28 (k0_pay6 (ldg arg4 harg4 x3 k)) (k0_pay23 (ldS arg7 harg7 x6 k)))))))⟩] := by
  unfold trip_k0_t1
  dsimp only
  sl_unfold_run_names
  rfl

/-- The trip's stores of scales. -/
theorem trip9 : (trip_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) k).2.2.1
    = [⟨Rect.unit (s := S4x6x512) (k0_off16 k) S1x1x512.size (k0_off16_inb k),
        vscale (vfix (vpeak (head5 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC5 arg6 harg6 x5 k) (k0_pay28 (k0_pay6 (ldg arg4 harg4 x3 k)) (k0_pay23 (ldS arg7 harg7 x6 k))))))⟩,
      ⟨Rect.unit (s := S4x6x512) (k0_off15 k) S1x1x512.size (k0_off15_inb k),
        vscale (vfix (vpeak (head4 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC4 arg6 harg6 x5 k) (k0_pay28 (k0_pay6 (ldg arg4 harg4 x3 k)) (k0_pay23 (ldS arg7 harg7 x6 k))))))⟩,
      ⟨Rect.unit (s := S4x6x512) (k0_off14 k) S1x1x512.size (k0_off14_inb k),
        vscale (vfix (vpeak (head3 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC3 arg6 harg6 x5 k) (k0_pay28 (k0_pay6 (ldg arg4 harg4 x3 k)) (k0_pay23 (ldS arg7 harg7 x6 k))))))⟩,
      ⟨Rect.unit (s := S4x6x512) (k0_off13 k) S1x1x512.size (k0_off13_inb k),
        vscale (vfix (vpeak (head2 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC2 arg6 harg6 x5 k) (k0_pay28 (k0_pay6 (ldg arg4 harg4 x3 k)) (k0_pay23 (ldS arg7 harg7 x6 k))))))⟩,
      ⟨Rect.unit (s := S4x6x512) (k0_off12 k) S1x1x512.size (k0_off12_inb k),
        vscale (vfix (vpeak (head1 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC1 arg6 harg6 x5 k) (k0_pay28 (k0_pay6 (ldg arg4 harg4 x3 k)) (k0_pay23 (ldS arg7 harg7 x6 k))))))⟩,
      ⟨Rect.unit (s := S4x6x512) (k0_off11 k) S1x1x512.size (k0_off11_inb k),
        vscale (vfix (vpeak (head0 k0_pay1 (k0_pay4 (ldq arg2 harg2 x1 k)) (dl (ldq arg1 harg1 x0 k) (ldq arg2 harg2 x1 k) (ldv arg3 harg3 x2 k) (ldg arg4 harg4 x3 k) (ldg arg5 harg5 x4 k) (ldC0 arg6 harg6 x5 k) (ldC1 arg6 harg6 x5 k) (ldC2 arg6 harg6 x5 k) (ldC3 arg6 harg6 x5 k) (ldC4 arg6 harg6 x5 k) (ldC5 arg6 harg6 x5 k) (ldS arg7 harg7 x6 k)) (ldC0 arg6 harg6 x5 k) (k0_pay28 (k0_pay6 (ldg arg4 harg4 x3 k)) (k0_pay23 (ldS arg7 harg7 x6 k))))))⟩] := by
  unfold trip_k0_t1
  dsimp only
  sl_unfold_run_names
  rfl

end Cert.KernelIdeal.Value

end
-- ==== Proof.Block.lean ====
/- What a grid point's run of the kernel leaves in its three result blocks. -/
module

public import proofs.«01_k».proof.Proof.Trip
public import proofs.«01_k».proof.Proof.Gen.KernelIdeal.Frame
public import Idealize.ShloMosaic.Lib.Pipeline.ReadBack

@[expose] public section

set_option maxRecDepth 16384

noncomputable section

namespace Cert.KernelIdeal.Value

open Cert.KernelIdeal Cert.KernelIdeal.Gen Cert.Delta Idealize.ShloMosaic Idealize.ShloMosaic.Tactic

/-- A piece agrees with a block when its value at each index is the block's where the piece's rectangle puts it. -/
theorem piecesOf_append {s : Shape} {e : EltTy} {G : s.Idx → Elt Ideal e} :
    ∀ {L L' : List (View.Piece (Elt Ideal) s e)}, View.PiecesOf G L → View.PiecesOf G L' → View.PiecesOf G (L ++ L')
  | [], _, _, h' => h'
  | _ :: _, _, h, h' => ⟨h.1, piecesOf_append h.2 h'⟩

variable (x0 x1 : Vec Ideal S4x1x6x256 .bf16) (x2 : Vec Ideal S4x1x6x512 .bf16) (x3 x4 : Vec Ideal S4x1x6 .f32)
  (x5 : Vec Ideal S4x6x512x256 .fp8e4m3) (x6 : Vec Ideal S4x6x512 .f32)
variable (𝒱 : Variants) (c : Dev nD) (bd : Option 𝒱.V) (i : grid0.Coords) (arg1 : Memref sig .tc .vmem S4x1x6x256 .bf16) (harg1 : arg1.IsWhole) (arg2 : Memref sig .tc .vmem S4x1x6x256 .bf16) (harg2 : arg2.IsWhole) (arg3 : Memref sig .tc .vmem S4x1x6x512 .bf16) (harg3 : arg3.IsWhole) (arg4 : Memref sig .tc .vmem S4x1x6 .f32) (harg4 : arg4.IsWhole) (arg5 : Memref sig .tc .vmem S4x1x6 .f32) (harg5 : arg5.IsWhole) (arg6 : Memref sig .tc .vmem S4x6x512x256 .fp8e4m3) (harg6 : arg6.IsWhole) (arg7 : Memref sig .tc .vmem S4x6x512 .f32) (harg7 : arg7.IsWhole) (arg8 : Memref sig .tc .vmem S4x1x6x512 .bf16) (harg8 : arg8.IsWhole) (arg9 : Memref sig .tc .vmem S4x6x512x256 .fp8e4m3) (harg9 : arg9.IsWhole) (arg10 : Memref sig .tc .vmem S4x6x512 .f32) (harg10 : arg10.IsWhole)

/-- A trip's stores of output rows agree with the output block. -/
theorem trip_pieces7 (k : Fin k0_t1_loop.trips) : View.PiecesOf (blk7 x0 x1 x2 x3 x4 x5 x6) (trip_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) k).1 := by
  rw [trip7]
  refine ⟨fun x => ?_, trivial⟩
  obtain ⟨a, b, h, v, rfl⟩ : ∃ a b h v, x = ix4 a b h v := ⟨_, _, _, _, eq_ix4 x⟩
  obtain rfl := Subsingleton.elim a 0
  obtain rfl := Subsingleton.elim b 0
  refine ((loads x0 x1 x2 x3 x4 x5 x6 arg1 harg1 arg2 harg2 arg3 harg3 arg4 harg4 arg5 harg5 arg6 harg6 arg7 harg7 k).blkOut h v).trans (congrArg _ (Eq.symm ?_))
  exact emb_eq _ _ (k0_off10_inb k) _ _ _ (off10 k) fun a => by fin_cases a <;> simp [entry]

/-- A trip's stores of codes agree with the block of codes. -/
theorem trip_pieces8 (k : Fin k0_t1_loop.trips) : View.PiecesOf (blk8 x1 x2 x3 x4 x5 x6) (trip_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) k).2.1 := by
  rw [trip8]
  refine ⟨fun x => ?_, fun x => ?_, fun x => ?_, fun x => ?_, fun x => ?_, fun x => ?_, trivial⟩ <;>
    obtain ⟨a, b, v, i, rfl⟩ : ∃ a b v i, x = ix4 a b v i := ⟨_, _, _, _, eq_ix4 x⟩ <;>
    obtain rfl := Subsingleton.elim a 0 <;>
    obtain rfl := Subsingleton.elim b 0
  · refine ((loads x0 x1 x2 x3 x4 x5 x6 arg1 harg1 arg2 harg2 arg3 harg3 arg4 harg4 arg5 harg5 arg6 harg6 arg7 harg7 k).codes5 v i).trans (congrArg _ (Eq.symm ?_))
    exact emb_eq _ _ (k0_off8_inb k) _ _ _ (off8 k) fun a => by fin_cases a <;> simp [entry]
  · refine ((loads x0 x1 x2 x3 x4 x5 x6 arg1 harg1 arg2 harg2 arg3 harg3 arg4 harg4 arg5 harg5 arg6 harg6 arg7 harg7 k).codes4 v i).trans (congrArg _ (Eq.symm ?_))
    exact emb_eq _ _ (k0_off7_inb k) _ _ _ (off7 k) fun a => by fin_cases a <;> simp [entry]
  · refine ((loads x0 x1 x2 x3 x4 x5 x6 arg1 harg1 arg2 harg2 arg3 harg3 arg4 harg4 arg5 harg5 arg6 harg6 arg7 harg7 k).codes3 v i).trans (congrArg _ (Eq.symm ?_))
    exact emb_eq _ _ (k0_off6_inb k) _ _ _ (off6 k) fun a => by fin_cases a <;> simp [entry]
  · refine ((loads x0 x1 x2 x3 x4 x5 x6 arg1 harg1 arg2 harg2 arg3 harg3 arg4 harg4 arg5 harg5 arg6 harg6 arg7 harg7 k).codes2 v i).trans (congrArg _ (Eq.symm ?_))
    exact emb_eq _ _ (k0_off5_inb k) _ _ _ (off5 k) fun a => by fin_cases a <;> simp [entry]
  · refine ((loads x0 x1 x2 x3 x4 x5 x6 arg1 harg1 arg2 harg2 arg3 harg3 arg4 harg4 arg5 harg5 arg6 harg6 arg7 harg7 k).codes1 v i).trans (congrArg _ (Eq.symm ?_))
    exact emb_eq _ _ (k0_off4_inb k) _ _ _ (off4 k) fun a => by fin_cases a <;> simp [entry]
  · refine ((loads x0 x1 x2 x3 x4 x5 x6 arg1 harg1 arg2 harg2 arg3 harg3 arg4 harg4 arg5 harg5 arg6 harg6 arg7 harg7 k).codes0 v i).trans (congrArg _ (Eq.symm ?_))
    exact emb_eq _ _ (k0_off3_inb k) _ _ _ (off3 k) fun a => by fin_cases a <;> simp [entry]

/-- A trip's stores of scales agree with the block of scales. -/
theorem trip_pieces9 (k : Fin k0_t1_loop.trips) : View.PiecesOf (blk9 x1 x2 x3 x4 x5 x6) (trip_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) k).2.2.1 := by
  rw [trip9]
  refine ⟨fun x => ?_, fun x => ?_, fun x => ?_, fun x => ?_, fun x => ?_, fun x => ?_, trivial⟩ <;>
    obtain ⟨a, b, v, rfl⟩ : ∃ a b v, x = ix3 a b v := ⟨_, _, _, eq_ix3 x⟩ <;>
    obtain rfl := Subsingleton.elim a 0 <;>
    obtain rfl := Subsingleton.elim b 0
  · refine ((loads x0 x1 x2 x3 x4 x5 x6 arg1 harg1 arg2 harg2 arg3 harg3 arg4 harg4 arg5 harg5 arg6 harg6 arg7 harg7 k).scale5 v).trans (congrArg _ (Eq.symm ?_))
    exact emb_eq _ _ (k0_off16_inb k) _ _ _ (off16 k) fun a => by fin_cases a <;> simp [entry]
  · refine ((loads x0 x1 x2 x3 x4 x5 x6 arg1 harg1 arg2 harg2 arg3 harg3 arg4 harg4 arg5 harg5 arg6 harg6 arg7 harg7 k).scale4 v).trans (congrArg _ (Eq.symm ?_))
    exact emb_eq _ _ (k0_off15_inb k) _ _ _ (off15 k) fun a => by fin_cases a <;> simp [entry]
  · refine ((loads x0 x1 x2 x3 x4 x5 x6 arg1 harg1 arg2 harg2 arg3 harg3 arg4 harg4 arg5 harg5 arg6 harg6 arg7 harg7 k).scale3 v).trans (congrArg _ (Eq.symm ?_))
    exact emb_eq _ _ (k0_off14_inb k) _ _ _ (off14 k) fun a => by fin_cases a <;> simp [entry]
  · refine ((loads x0 x1 x2 x3 x4 x5 x6 arg1 harg1 arg2 harg2 arg3 harg3 arg4 harg4 arg5 harg5 arg6 harg6 arg7 harg7 k).scale2 v).trans (congrArg _ (Eq.symm ?_))
    exact emb_eq _ _ (k0_off13_inb k) _ _ _ (off13 k) fun a => by fin_cases a <;> simp [entry]
  · refine ((loads x0 x1 x2 x3 x4 x5 x6 arg1 harg1 arg2 harg2 arg3 harg3 arg4 harg4 arg5 harg5 arg6 harg6 arg7 harg7 k).scale1 v).trans (congrArg _ (Eq.symm ?_))
    exact emb_eq _ _ (k0_off12_inb k) _ _ _ (off12 k) fun a => by fin_cases a <;> simp [entry]
  · refine ((loads x0 x1 x2 x3 x4 x5 x6 arg1 harg1 arg2 harg2 arg3 harg3 arg4 harg4 arg5 harg5 arg6 harg6 arg7 harg7 k).scale0 v).trans (congrArg _ (Eq.symm ?_))
    exact emb_eq _ _ (k0_off11_inb k) _ _ _ (off11 k) fun a => by fin_cases a <;> simp [entry]

/-- So do the stores of the loop's first `n` trips. -/
theorem loop_pieces : ∀ n, n ≤ k0_t1_loop.trips →
    View.PiecesOf (blk7 x0 x1 x2 x3 x4 x5 x6) (pb_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) n).1
    ∧ View.PiecesOf (blk8 x1 x2 x3 x4 x5 x6) (pb_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) n).2.1
    ∧ View.PiecesOf (blk9 x1 x2 x3 x4 x5 x6) (pb_k0_t1 (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) n).2.2
  | 0, _ => by
    rw [pb_k0_t1.eq_1]
    exact ⟨trivial, trivial, trivial⟩
  | n + 1, hn => by
    have ih := loop_pieces n (by omega)
    have e := pb_k0_t1_succ (F := Ideal) 𝒱 c bd i arg1 harg1 arg2 harg2 arg3 harg3 arg4 harg4 arg5 harg5 arg6 harg6 arg7 harg7 arg8 harg8 arg9 harg9 arg10 harg10 (harg1.unread x0) (harg2.unread x1) (harg3.unread x2) (harg4.unread x3) (harg5.unread x4) (harg6.unread x5) (harg7.unread x6) ⟨n, hn⟩
    refine e ▸ ⟨piecesOf_append ?_ ih.1, piecesOf_append ?_ ih.2.1, piecesOf_append ?_ ih.2.2⟩
    · unfold tripL_k0_t1
      exact trip_pieces7 x0 x1 x2 x3 x4 x5 x6 𝒱 c bd i arg1 harg1 arg2 harg2 arg3 harg3 arg4 harg4 arg5 harg5 arg6 harg6 arg7 harg7 arg8 harg8 arg9 harg9 arg10 harg10 ⟨n, hn⟩
    · unfold tripL_k0_t1
      exact trip_pieces8 x0 x1 x2 x3 x4 x5 x6 𝒱 c bd i arg1 harg1 arg2 harg2 arg3 harg3 arg4 harg4 arg5 harg5 arg6 harg6 arg7 harg7 arg8 harg8 arg9 harg9 arg10 harg10 ⟨n, hn⟩
    · unfold tripL_k0_t1
      exact trip_pieces9 x0 x1 x2 x3 x4 x5 x6 𝒱 c bd i arg1 harg1 arg2 harg2 arg3 harg3 arg4 harg4 arg5 harg5 arg6 harg6 arg7 harg7 arg8 harg8 arg9 harg9 arg10 harg10 ⟨n, hn⟩

/-- The run leaves blk7 in result 0's block. -/
theorem out7_eq : out0_A_7 (F := Ideal) c i arg1 harg1 arg2 harg2 arg3 harg3 arg4 harg4 arg5 harg5 arg6 harg6 arg7 harg7 arg8 harg8 arg9 harg9 arg10 harg10 x0 x1 x2 x3 x4 x5 x6 = blk7 x0 x1 x2 x3 x4 x5 x6 := by
  funext y
  unfold out0_A_7
  rw [View.read_writes_junk_eq_canon]
  refine View.canon_apply_of_pieces _ _ (View.PiecesOf.mem ?_) y (cover0_A_7 c i arg1 harg1 arg2 harg2 arg3 harg3 arg4 harg4 arg5 harg5 arg6 harg6 arg7 harg7 arg8 harg8 arg9 harg9 arg10 harg10 x0 x1 x2 x3 x4 x5 x6 y)
  unfold kernelRun0_A
  dsimp only
  have h := loop_pieces x0 x1 x2 x3 x4 x5 x6 Variants.none c none i arg1 harg1 arg2 harg2 arg3 harg3 arg4 harg4 arg5 harg5 arg6 harg6 arg7 harg7 arg8 harg8 arg9 harg9 arg10 harg10 _ le_rfl
  simpa only [List.append_nil] using h.1

/-- The run leaves blk8 in result 1's block. -/
theorem out8_eq : out0_A_8 (F := Ideal) c i arg1 harg1 arg2 harg2 arg3 harg3 arg4 harg4 arg5 harg5 arg6 harg6 arg7 harg7 arg8 harg8 arg9 harg9 arg10 harg10 x0 x1 x2 x3 x4 x5 x6 = blk8 x1 x2 x3 x4 x5 x6 := by
  funext y
  unfold out0_A_8
  rw [View.read_writes_junk_eq_canon]
  refine View.canon_apply_of_pieces _ _ (View.PiecesOf.mem ?_) y (cover0_A_8 c i arg1 harg1 arg2 harg2 arg3 harg3 arg4 harg4 arg5 harg5 arg6 harg6 arg7 harg7 arg8 harg8 arg9 harg9 arg10 harg10 x0 x1 x2 x3 x4 x5 x6 y)
  unfold kernelRun0_A
  dsimp only
  have h := loop_pieces x0 x1 x2 x3 x4 x5 x6 Variants.none c none i arg1 harg1 arg2 harg2 arg3 harg3 arg4 harg4 arg5 harg5 arg6 harg6 arg7 harg7 arg8 harg8 arg9 harg9 arg10 harg10 _ le_rfl
  simpa only [List.append_nil] using h.2.1

/-- The run leaves blk9 in result 2's block. -/
theorem out9_eq : out0_A_9 (F := Ideal) c i arg1 harg1 arg2 harg2 arg3 harg3 arg4 harg4 arg5 harg5 arg6 harg6 arg7 harg7 arg8 harg8 arg9 harg9 arg10 harg10 x0 x1 x2 x3 x4 x5 x6 = blk9 x1 x2 x3 x4 x5 x6 := by
  funext y
  unfold out0_A_9
  rw [View.read_writes_junk_eq_canon]
  refine View.canon_apply_of_pieces _ _ (View.PiecesOf.mem ?_) y (cover0_A_9 c i arg1 harg1 arg2 harg2 arg3 harg3 arg4 harg4 arg5 harg5 arg6 harg6 arg7 harg7 arg8 harg8 arg9 harg9 arg10 harg10 x0 x1 x2 x3 x4 x5 x6 y)
  unfold kernelRun0_A
  dsimp only
  have h := loop_pieces x0 x1 x2 x3 x4 x5 x6 Variants.none c none i arg1 harg1 arg2 harg2 arg3 harg3 arg4 harg4 arg5 harg5 arg6 harg6 arg7 harg7 arg8 harg8 arg9 harg9 arg10 harg10 _ le_rfl
  simpa only [List.append_nil] using h.2.2

end Cert.KernelIdeal.Value

end
-- ==== Proof.KernelValue.lean ====
/- The kernel's result arrays are the reference's, of the same arguments. -/
module

public import proofs.«01_k».proof.Proof.Block
public import proofs.«01_k».proof.Proof.Gen.KernelIdeal.Value
public import proofs.«01_k».proof.Proof.RefValue

@[expose] public section

set_option maxRecDepth 16384

noncomputable section

namespace Cert.KernelIdeal.Value

open Cert.KernelIdeal Cert.KernelIdeal.Gen Cert.Delta Idealize.ShloMosaic Idealize.ShloMosaic.Tactic Idealize.ShloMosaic.TcCoe

/-! ## The windows: grid point `t` holds batch entries `4 t` to `4 t + 3` -/

/-- Window 0's block index at grid point `t`. -/
theorem idx0 (t : Fin cfg0.N) : win0_0.index t = ![(t : ℕ), 0, 0, 0] :=
  (by decide +kernel : ∀ t : Fin grid0.N, win0_0.index t = ![(t : ℕ), 0, 0, 0]) t

/-- Window 1's block index at grid point `t`. -/
theorem idx1 (t : Fin cfg0.N) : win0_1.index t = ![(t : ℕ), 0, 0, 0] :=
  (by decide +kernel : ∀ t : Fin grid0.N, win0_1.index t = ![(t : ℕ), 0, 0, 0]) t

/-- Window 2's block index at grid point `t`. -/
theorem idx2 (t : Fin cfg0.N) : win0_2.index t = ![(t : ℕ), 0, 0, 0] :=
  (by decide +kernel : ∀ t : Fin grid0.N, win0_2.index t = ![(t : ℕ), 0, 0, 0]) t

/-- Window 3's block index at grid point `t`. -/
theorem idx3 (t : Fin cfg0.N) : win0_3.index t = ![(t : ℕ), 0, 0] :=
  (by decide +kernel : ∀ t : Fin grid0.N, win0_3.index t = ![(t : ℕ), 0, 0]) t

/-- Window 4's block index at grid point `t`. -/
theorem idx4 (t : Fin cfg0.N) : win0_4.index t = ![(t : ℕ), 0, 0] :=
  (by decide +kernel : ∀ t : Fin grid0.N, win0_4.index t = ![(t : ℕ), 0, 0]) t

/-- Window 5's block index at grid point `t`. -/
theorem idx5 (t : Fin cfg0.N) : win0_5.index t = ![(t : ℕ), 0, 0, 0] :=
  (by decide +kernel : ∀ t : Fin grid0.N, win0_5.index t = ![(t : ℕ), 0, 0, 0]) t

/-- Window 6's block index at grid point `t`. -/
theorem idx6 (t : Fin cfg0.N) : win0_6.index t = ![(t : ℕ), 0, 0] :=
  (by decide +kernel : ∀ t : Fin grid0.N, win0_6.index t = ![(t : ℕ), 0, 0]) t

/-- Window 7's block index at grid point `t`. -/
theorem idx7 (t : Fin cfg0.N) : win0_7.index t = ![(t : ℕ), 0, 0, 0] :=
  (by decide +kernel : ∀ t : Fin grid0.N, win0_7.index t = ![(t : ℕ), 0, 0, 0]) t

/-- Window 8's block index at grid point `t`. -/
theorem idx8 (t : Fin cfg0.N) : win0_8.index t = ![(t : ℕ), 0, 0, 0] :=
  (by decide +kernel : ∀ t : Fin grid0.N, win0_8.index t = ![(t : ℕ), 0, 0, 0]) t

/-- Window 9's block index at grid point `t`. -/
theorem idx9 (t : Fin cfg0.N) : win0_9.index t = ![(t : ℕ), 0, 0] :=
  (by decide +kernel : ∀ t : Fin grid0.N, win0_9.index t = ![(t : ℕ), 0, 0]) t

variable (m : (ℓ : Loc nD τ sig) → Buf (Elt Ideal) ℓ) (c : Dev nD) (t : Fin cfg0.N)

/-- Entry `b` of grid point `t`'s blocks. -/
def batch (b : Fin 4) : Fin 320 := ⟨4 * (t : ℕ) + b, by have h : (t : ℕ) < 80 := t.isLt; omega⟩

/-- Window 0's block at an index. -/
theorem in0 (b : Fin 4) (h : Fin 6) (i : Fin 256) :
    (iblk m c 0 t : Vec Ideal S4x1x6x256 .bf16) (ix4 b 0 h i)
      = (m ((c : Thread nD τ).loc main_arg0) : Vec Ideal S320x1x6x256 .bf16) (ix4 (batch t b) 0 h i) := by
  blk_ext [iblk, V, idx0 t, batch]

/-- Window 1's block at an index. -/
theorem in1 (b : Fin 4) (h : Fin 6) (i : Fin 256) :
    (iblk m c 1 t : Vec Ideal S4x1x6x256 .bf16) (ix4 b 0 h i)
      = (m ((c : Thread nD τ).loc main_arg1) : Vec Ideal S320x1x6x256 .bf16) (ix4 (batch t b) 0 h i) := by
  blk_ext [iblk, V, idx1 t, batch]

/-- Window 2's block at an index. -/
theorem in2 (b : Fin 4) (h : Fin 6) (v : Fin 512) :
    (iblk m c 2 t : Vec Ideal S4x1x6x512 .bf16) (ix4 b 0 h v)
      = (m ((c : Thread nD τ).loc main_arg2) : Vec Ideal S320x1x6x512 .bf16) (ix4 (batch t b) 0 h v) := by
  blk_ext [iblk, V, idx2 t, batch]

/-- Window 3's block at an index. -/
theorem in3 (b : Fin 4) (h : Fin 6) :
    (iblk m c 3 t : Vec Ideal S4x1x6 .f32) (ix3 b 0 h)
      = (m ((c : Thread nD τ).loc main_arg3) : Vec Ideal S320x1x6 .f32) (ix3 (batch t b) 0 h) := by
  blk_ext [iblk, V, idx3 t, batch]

/-- Window 4's block at an index. -/
theorem in4 (b : Fin 4) (h : Fin 6) :
    (iblk m c 4 t : Vec Ideal S4x1x6 .f32) (ix3 b 0 h)
      = (m ((c : Thread nD τ).loc main_arg4) : Vec Ideal S320x1x6 .f32) (ix3 (batch t b) 0 h) := by
  blk_ext [iblk, V, idx4 t, batch]

/-- Window 5's block at an index. -/
theorem in5 (b : Fin 4) (h : Fin 6) (v : Fin 512) (i : Fin 256) :
    (iblk m c 5 t : Vec Ideal S4x6x512x256 .fp8e4m3) (ix4 b h v i)
      = (m ((c : Thread nD τ).loc main_arg5) : Vec Ideal S320x6x512x256 .fp8e4m3) (ix4 (batch t b) h v i) := by
  blk_ext [iblk, V, idx5 t, batch]

/-- Window 6's block at an index. -/
theorem in6 (b : Fin 4) (h : Fin 6) (v : Fin 512) :
    (iblk m c 6 t : Vec Ideal S4x6x512 .f32) (ix3 b h v)
      = (m ((c : Thread nD τ).loc main_arg6) : Vec Ideal S320x6x512 .f32) (ix3 (batch t b) h v) := by
  blk_ext [iblk, V, idx6 t, batch]

/-- Where window 7's block puts an index. -/
theorem emb7 (b : Fin 4) (h : Fin 6) (v : Fin 512) : (win0_7.blk t).view.emb (ix4 b 0 h v) = ix4 (batch t b) 0 h v := by
  blk_ext [idx7 t, batch]

/-- Where window 8's block puts an index. -/
theorem emb8 (b : Fin 4) (h : Fin 6) (v : Fin 512) (i : Fin 256) : (win0_8.blk t).view.emb (ix4 b h v i) = ix4 (batch t b) h v i := by
  blk_ext [idx8 t, batch]

/-- Where window 9's block puts an index. -/
theorem emb9 (b : Fin 4) (h : Fin 6) (v : Fin 512) : (win0_9.blk t).view.emb (ix3 b h v) = ix3 (batch t b) h v := by
  blk_ext [idx9 t, batch]

/-- A row of the output block, of the arguments. -/
theorem row7_iblk (b : Fin 4) (h : Fin 6) (v : Fin 512) :
    row7 (iblk m c 0 t) (iblk m c 1 t) (iblk m c 2 t) (iblk m c 3 t) (iblk m c 4 t) (iblk m c 5 t) (iblk m c 6 t) b h v
      = Cert.ReferenceIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 (batch t b) 0 h v) := by
  rw [Cert.ReferenceIdeal.Value.G7_eq]
  unfold row7
  simp only [in0, in1, in2, in3, in4, in5, in6]

/-- A row of the new state, of the arguments. -/
theorem row8_iblk (b : Fin 4) (h : Fin 6) (v : Fin 512) :
    row8 (iblk m c 1 t) (iblk m c 2 t) (iblk m c 3 t) (iblk m c 4 t) (iblk m c 5 t) (iblk m c 6 t) b h v
      = state (fun i => (m ((c : Thread nD τ).loc main_arg1) : Vec Ideal S320x1x6x256 .bf16) (ix4 (batch t b) 0 h i))
        (fun v => (m ((c : Thread nD τ).loc main_arg2) : Vec Ideal S320x1x6x512 .bf16) (ix4 (batch t b) 0 h v))
        ((m ((c : Thread nD τ).loc main_arg3) : Vec Ideal S320x1x6 .f32) (ix3 (batch t b) 0 h))
        ((m ((c : Thread nD τ).loc main_arg4) : Vec Ideal S320x1x6 .f32) (ix3 (batch t b) 0 h))
        (fun v i => (m ((c : Thread nD τ).loc main_arg5) : Vec Ideal S320x6x512x256 .fp8e4m3) (ix4 (batch t b) h v i))
        (fun v => (m ((c : Thread nD τ).loc main_arg6) : Vec Ideal S320x6x512 .f32) (ix3 (batch t b) h v)) v := by
  unfold row8
  simp only [in1, in2, in3, in4, in5, in6]

/-- Grid point `t` leaves the block in result 0's staging buffer. -/
theorem outsAt7 : (outsAt0 m c t).1 = blk7 (iblk m c 0 t) (iblk m c 1 t) (iblk m c 2 t) (iblk m c 3 t) (iblk m c 4 t) (iblk m c 5 t) (iblk m c 6 t) :=
  out7_eq ..

/-- The kernel's output array. -/
theorem arr7 : (dats m 0 c).arrAt 7 cfg0.N
    = Cert.ReferenceIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp [idx7 t]
  show (outsAt0 m c t).1 y = _
  rw [outsAt7]
  obtain ⟨a, z, h, v, rfl⟩ : ∃ a z h v, y = (ix4 a z h v : S4x1x6x512.Idx) := ⟨_, _, _, _, eq_ix4 (y : S4x1x6x512.Idx)⟩
  obtain rfl := Subsingleton.elim z 0
  rw [emb7]
  exact row7_iblk m c t a h v

/-- Grid point `t` leaves the block in result 1's staging buffer. -/
theorem outsAt8 : (outsAt0 m c t).2.1 = blk8 (iblk m c 1 t) (iblk m c 2 t) (iblk m c 3 t) (iblk m c 4 t) (iblk m c 5 t) (iblk m c 6 t) :=
  out8_eq ..

/-- The kernel's array of codes. -/
theorem arr8 : (dats m 0 c).arrAt 8 cfg0.N
    = Cert.ReferenceIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp [idx8 t]
  show (outsAt0 m c t).2.1 y = _
  rw [outsAt8]
  obtain ⟨a, h, v, i, rfl⟩ : ∃ a h v i, y = (ix4 a h v i : S4x6x512x256.Idx) := ⟨_, _, _, _, eq_ix4 (y : S4x6x512x256.Idx)⟩
  rw [emb8]
  refine (congrArg (fun r => codeOf r i) (row8_iblk m c t a h v)).trans ?_
  rw [Cert.ReferenceIdeal.Value.G8_eq]

/-- Grid point `t` leaves the block in result 2's staging buffer. -/
theorem outsAt9 : (outsAt0 m c t).2.2 = blk9 (iblk m c 1 t) (iblk m c 2 t) (iblk m c 3 t) (iblk m c 4 t) (iblk m c 5 t) (iblk m c 6 t) :=
  out9_eq ..

/-- The kernel's array of scales. -/
theorem arr9 : (dats m 0 c).arrAt 9 cfg0.N
    = Cert.ReferenceIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp [idx9 t]
  show (outsAt0 m c t).2.2 y = _
  rw [outsAt9]
  obtain ⟨a, h, v, rfl⟩ : ∃ a h v, y = (ix3 a h v : S4x6x512.Idx) := ⟨_, _, _, eq_ix3 (y : S4x6x512.Idx)⟩
  rw [emb9]
  refine (congrArg (fun r => scaleOf r) (row8_iblk m c t a h v)).trans ?_
  rw [Cert.ReferenceIdeal.Value.G9_eq]

end Cert.KernelIdeal.Value

end
-- ==== Proof.lean ====
/- The five claims: three frames, the preservation and the value claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.RefValue
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- At the ideal instance the kernel's three results are the reference's, from arguments that agree: both runs end at the
    same three functions of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.ReferenceIdeal.Value.G7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Value.G8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Value.G9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    ?_, ?_⟩
  · refine (θ_run Cert.KernelIdeal.defs _ _).mono (fun _ h c => ?_) (Cert.KernelIdeal.Value.run_blocks (F := Ideal) m g)
    obtain ⟨h7, h8, h9, h⟩ := h c
    exact ⟨h7.trans (Cert.KernelIdeal.Value.arr7 m c), h8.trans (Cert.KernelIdeal.Value.arr8 m c),
      h9.trans (Cert.KernelIdeal.Value.arr9 m c), h⟩
  · refine (θ_run Cert.ReferenceIdeal.defs _ _).mono (fun _ h c => ?_) (Cert.ReferenceIdeal.Value.run (F := Ideal) m' g')
    obtain ⟨h7, h8, h9, h⟩ := h c
    obtain ⟨e0, e1, e2, e3, e4, e5, e6⟩ := hagree c
    rw [e0, e1, e2, e3, e4, e5, e6] at h7 h8 h9
    exact ⟨h7, h8, h9, h⟩

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
